-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_cst_0)) (v4 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_cst_0) = v3 c
          ∧ r.2.mem ((c.tc : Thread Cert.KernelIdeal.nD Cert.KernelIdeal.τ).loc Cert.KernelIdeal.main_v2_2) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_v54) = v3 c
          ∧ r.2.mem ((c.tc : Thread Cert.ReferenceIdeal.nD Cert.ReferenceIdeal.τ).loc Cert.ReferenceIdeal.main_v20) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x8x16x128x64 : Shape := ⟨5, ![2, 8, 16, 128, 64]⟩
abbrev S8x512x64 : Shape := ⟨3, ![8, 512, 64]⟩
abbrev S8x512 : Shape := ⟨2, ![8, 512]⟩
abbrev S_ : Shape := ⟨0, ![]⟩

class Facts : Prop where
  bcast_S_S2x8x16x128x64 : S_.BroadcastsInDim S2x8x16x128x64 (![] : Fin 0 → Fin S2x8x16x128x64.rank)
  bcast_S_S8x512x64 : S_.BroadcastsInDim S8x512x64 (![] : Fin 0 → Fin S8x512x64.rank)
  bcast_S_S8x512 : S_.BroadcastsInDim S8x512 (![] : Fin 0 → Fin S8x512.rank)

variable [Facts]

def fn {F : FTy → Type} [FloatOps F] (main_arg0 : FVec F S2x8x16x128x64 .f32) (main_arg1 : FVec F S8x512x64 .f32) (main_arg2 : FVec F S8x512 .f32) : IVec S2x8x16x128x64 1 × IVec S8x512x64 1 × IVec S8x512 1 :=
  let main_v0 : FVec F S2x8x16x128x64 .f32 := Host.absf main_arg0
  let main_cst : FVec F S_ .f32 := constant S_ .f32 0x7F800000#32
  let main_v1 : FVec F S2x8x16x128x64 .f32 := broadcastInDim S2x8x16x128x64 ![] bcast_S_S2x8x16x128x64 main_cst
  let main_v2 : IVec S2x8x16x128x64 1 := cmpf .olt main_v0 main_v1
  let main_v3 : FVec F S8x512x64 .f32 := Host.absf main_arg1
  let main_cst_0 : FVec F S_ .f32 := constant S_ .f32 0x7F800000#32
  let main_v4 : FVec F S8x512x64 .f32 := broadcastInDim S8x512x64 ![] bcast_S_S8x512x64 main_cst_0
  let main_v5 : IVec S8x512x64 1 := cmpf .olt main_v3 main_v4
  let main_v6 : FVec F S8x512 .f32 := Host.absf main_arg2
  let main_cst_1 : FVec F S_ .f32 := constant S_ .f32 0x7F800000#32
  let main_v7 : FVec F S8x512 .f32 := broadcastInDim S8x512 ![] bcast_S_S8x512 main_cst_1
  let main_v8 : IVec S8x512 1 := cmpf .olt main_v6 main_v7
  (main_v2, main_v5, main_v8)
-- ==== Kernel.lean ====
abbrev S2x8x16x128x64 : Shape := ⟨5, ![2, 8, 16, 128, 64]⟩
abbrev S8x512x64 : Shape := ⟨3, ![8, 512, 64]⟩
abbrev S8x512 : Shape := ⟨2, ![8, 512]⟩
abbrev S2x8x16x64x128 : Shape := ⟨5, ![2, 8, 16, 64, 128]⟩
abbrev S8x512x1 : Shape := ⟨3, ![8, 512, 1]⟩
abbrev S2x8x16x128 : Shape := ⟨4, ![2, 8, 16, 128]⟩
abbrev S1x1 : Shape := ⟨2, ![1, 1]⟩
abbrev S2x1x16x64x128 : Shape := ⟨5, ![2, 1, 16, 64, 128]⟩
abbrev S1x512x64 : Shape := ⟨3, ![1, 512, 64]⟩
abbrev S1x512x1 : Shape := ⟨3, ![1, 512, 1]⟩
abbrev S2x1x16x128 : Shape := ⟨4, ![2, 1, 16, 128]⟩
abbrev S512x64 : Shape := ⟨2, ![512, 64]⟩
abbrev S512x1 : Shape := ⟨2, ![512, 1]⟩
abbrev S512 : Shape := ⟨1, ![512]⟩
abbrev S1x1x1x64x128 : Shape := ⟨5, ![1, 1, 1, 64, 128]⟩
abbrev S64x128 : Shape := ⟨2, ![64, 128]⟩
abbrev S64x4096 : Shape := ⟨2, ![64, 4096]⟩
abbrev S512x4096 : Shape := ⟨2, ![512, 4096]⟩
abbrev S4096 : Shape := ⟨1, ![4096]⟩
abbrev S1x4096 : Shape := ⟨2, ![1, 4096]⟩
abbrev S1x1x4096 : Shape := ⟨3, ![1, 1, 4096]⟩
abbrev S1 : Shape := ⟨1, ![1]⟩
abbrev S1x1x1 : Shape := ⟨3, ![1, 1, 1]⟩
abbrev S_ : Shape := ⟨0, ![]⟩

abbrev nBuf : Space → Nat
  | .hbm => 14
  | .vmem => 12
  | .smem => 1
  | _ => 0

abbrev bufTy : (tb : Table) → Fin (tcTables nBuf tb) → BufTy
  | .hbm, ⟨0, _⟩ => ⟨S2x8x16x128x64, .f32⟩
  | .hbm, ⟨1, _⟩ => ⟨S8x512x64, .f32⟩
  | .hbm, ⟨2, _⟩ => ⟨S8x512, .f32⟩
  | .hbm, ⟨3, _⟩ => ⟨S2x8x16x64x128, .f32⟩
  | .hbm, ⟨4, _⟩ => ⟨S8x512x1, .f32⟩
  | .hbm, ⟨5, _⟩ => ⟨S2x8x16x64x128, .f32⟩
  | .hbm, ⟨6, _⟩ => ⟨S2x8x16x128, .i32⟩
  | .hbm, ⟨7, _⟩ => ⟨S2x8x16x128, .f32⟩
  | .hbm, ⟨8, _⟩ => ⟨S1x1, .f32⟩
  | .hbm, ⟨9, _⟩ => ⟨S2x8x16x128x64, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S2x1x16x64x128, .f32⟩
  | .local _ .vmem, ⟨1, _⟩ => ⟨S2x1x16x64x128, .f32⟩
  | .local _ .vmem, ⟨2, _⟩ => ⟨S1x512x64, .f32⟩
  | .local _ .vmem, ⟨3, _⟩ => ⟨S1x512x64, .f32⟩
  | .local _ .vmem, ⟨4, _⟩ => ⟨S1x512x1, .f32⟩
  | .local _ .vmem, ⟨5, _⟩ => ⟨S1x512x1, .f32⟩
  | .local _ .vmem, ⟨6, _⟩ => ⟨S2x1x16x64x128, .f32⟩
  | .local _ .vmem, ⟨7, _⟩ => ⟨S2x1x16x64x128, .f32⟩
  | .local _ .vmem, ⟨8, _⟩ => ⟨S2x1x16x128, .i32⟩
  | .local _ .vmem, ⟨9, _⟩ => ⟨S2x1x16x128, .i32⟩
  | .local _ .vmem, ⟨10, _⟩ => ⟨S2x1x16x128, .f32⟩
  | .local _ .vmem, ⟨11, _⟩ => ⟨S2x1x16x128, .f32⟩
  | .local _ .smem, ⟨0, _⟩ => ⟨S1x1, .f32⟩
  | _, _ => ⟨S2x8x16x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x1x16x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1x16x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x1x16x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x1x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .smem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S2x8x16x128x64 : Shape := ⟨5, ![2, 8, 16, 128, 64]⟩
abbrev S8x512x64 : Shape := ⟨3, ![8, 512, 64]⟩
abbrev S8x512 : Shape := ⟨2, ![8, 512]⟩
abbrev S8x512x1 : Shape := ⟨3, ![8, 512, 1]⟩
abbrev S_ : Shape := ⟨0, ![]⟩
abbrev S2x8x16x128 : Shape := ⟨4, ![2, 8, 16, 128]⟩
abbrev S2x8x16x128x1 : Shape := ⟨5, ![2, 8, 16, 128, 1]⟩
abbrev S8x512x2x16x128 : Shape := ⟨5, ![8, 512, 2, 16, 128]⟩
abbrev S2x8x16x128x512 : Shape := ⟨5, ![2, 8, 16, 128, 512]⟩
abbrev S1x8x1x1x512 : Shape := ⟨5, ![1, 8, 1, 1, 512]⟩
abbrev S1x8x1x512x64 : Shape := ⟨5, ![1, 8, 1, 512, 64]⟩
abbrev S1 : Shape := ⟨1, ![1]⟩
abbrev S1x1x1x1x1 : Shape := ⟨5, ![1, 1, 1, 1, 1]⟩
abbrev S2x16x128 : Shape := ⟨3, ![2, 16, 128]⟩
abbrev S1x1x1x1x512 : Shape := ⟨5, ![1, 1, 1, 1, 512]⟩

abbrev nBuf : Space → Nat
  | .hbm => 110
  | .vmem => 0
  | .smem => 0
  | _ => 0

abbrev bufTy : (tb : Table) → Fin (tcTables nBuf tb) → BufTy
  | .hbm, ⟨0, _⟩ => ⟨S2x8x16x128x64, .f32⟩
  | .hbm, ⟨1, _⟩ => ⟨S8x512x64, .f32⟩
  | .hbm, ⟨2, _⟩ => ⟨S8x512, .f32⟩
  | .hbm, ⟨3, _⟩ => ⟨S8x512x1, .f32⟩
  | .hbm, ⟨4, _⟩ => ⟨S_, .f32⟩
  | .hbm, ⟨5, _⟩ => ⟨S_, .f32⟩
  | .hbm, ⟨6, _⟩ => ⟨S8x512x1, .f32⟩
  | .hbm, ⟨7, _⟩ => ⟨S8x512x1, .f32⟩
  | .hbm, ⟨8, _⟩ => ⟨S8x512x64, .f32⟩
  | .hbm, ⟨9, _⟩ => ⟨S8x512x64, .f32⟩
  | .hbm, ⟨10, _⟩ => ⟨S2x8x16x128x64, .f32⟩
  | .hbm, ⟨11, _⟩ => ⟨S_, .f32⟩
  | .hbm, ⟨12, _⟩ => ⟨S2x8x16x128, .f32⟩
  | .hbm, ⟨13, _⟩ => ⟨S2x8x16x128x1, .f32⟩
  | .hbm, ⟨14, _⟩ => ⟨S8x512x2x16x128, .f32⟩
  | .hbm, ⟨15, _⟩ => ⟨S2x8x16x128x512, .f32⟩
  | .hbm, ⟨16, _⟩ => ⟨S_, .f32⟩
  | .hbm, ⟨17, _⟩ => ⟨S2x8x16x128x512, .f32⟩
  | .hbm, ⟨18, _⟩ => ⟨S2x8x16x128x512, .f32⟩
  | .hbm, ⟨19, _⟩ => ⟨S2x8x16x128x512, .f32⟩
  | .hbm, ⟨20, _⟩ => ⟨S2x8x16x128x512, .f32⟩
  | .hbm, ⟨21, _⟩ => ⟨S8x512x64, .f32⟩
  | .hbm, ⟨22, _⟩ => ⟨S_, .f32⟩
  | .hbm, ⟨23, _⟩ => ⟨S8x512, .f32⟩
  | .hbm, ⟨24, _⟩ => ⟨S1x8x1x1x512, .f32⟩
  | .hbm, ⟨25, _⟩ => ⟨S2x8x16x128x512, .f32⟩
  | .hbm, ⟨26, _⟩ => ⟨S2x8x16x128x512, .f32⟩
  | .hbm, ⟨27, _⟩ => ⟨S2x8x16x128x512, .i32⟩
  | .hbm, ⟨28, _⟩ => ⟨S_, .f32⟩
  | .hbm, ⟨29, _⟩ => ⟨S_, .i32⟩
  | .hbm, ⟨30, _⟩ => ⟨S2x8x16x128, .f32⟩
  | .hbm, ⟨31, _⟩ => ⟨S2x8x16x128, .i32⟩
  | .hbm, ⟨32, _⟩ => ⟨S_, .f32⟩
  | .hbm, ⟨33, _⟩ => ⟨S2x8x16x128, .f32⟩
  | .hbm, ⟨34, _⟩ => ⟨S_, .f32⟩
  | .hbm, ⟨35, _⟩ => ⟨S2x8x16x128, .f32⟩
  | .hbm, ⟨36, _⟩ => ⟨S2x8x16x128, .f32⟩
  | .hbm, ⟨37, _⟩ => ⟨S1x8x1x512x64, .f32⟩
  | .hbm, ⟨38, _⟩ => ⟨S2x8x16x128x1, .i32⟩
  | .hbm, ⟨39, _⟩ => ⟨S_, .i32⟩
  | .hbm, ⟨40, _⟩ => ⟨S2x8x16x128x1, .i32⟩
  | .hbm, ⟨41, _⟩ => ⟨S2x8x16x128x1, .i1⟩
  | .hbm, ⟨42, _⟩ => ⟨S_, .i32⟩
  | .hbm, ⟨43, _⟩ => ⟨S2x8x16x128x1, .i32⟩
  | .hbm, ⟨44, _⟩ => ⟨S2x8x16x128x1, .i32⟩
  | .hbm, ⟨45, _⟩ => ⟨S2x8x16x128x1, .i32⟩
  | .hbm, ⟨46, _⟩ => ⟨S8x512x64, .f32⟩
  | .hbm, ⟨47, _⟩ => ⟨S1, .i32⟩
  | .hbm, ⟨48, _⟩ => ⟨S_, .i32⟩
  | .hbm, ⟨49, _⟩ => ⟨S2x8x16x128x1, .i32⟩
  | .hbm, ⟨50, _⟩ => ⟨S2x8x16x128x1, .i1⟩
  | .hbm, ⟨51, _⟩ => ⟨S1x1x1x1x1, .i32⟩
  | .hbm, ⟨52, _⟩ => ⟨S2x8x16x128x1, .i32⟩
  | .hbm, ⟨53, _⟩ => ⟨S2x8x16x128x1, .i1⟩
  | .hbm, ⟨54, _⟩ => ⟨S2x8x16x128x1, .i1⟩
  | .hbm, ⟨55, _⟩ => ⟨S_, .i1⟩
  | .hbm, ⟨56, _⟩ => ⟨S2x8x16x128, .i1⟩
  | .hbm, ⟨57, _⟩ => ⟨S2x8x16x128x64, .f32⟩
  | .hbm, ⟨58, _⟩ => ⟨S2x8x16x128x64, .i1⟩
  | .hbm, ⟨59, _⟩ => ⟨S_, .f32⟩
  | .hbm, ⟨60, _⟩ => ⟨S2x8x16x128x64, .f32⟩
  | .hbm, ⟨61, _⟩ => ⟨S2x8x16x128x64, .f32⟩
  | .hbm, ⟨62, _⟩ => ⟨S2x8x16x128x64, .f32⟩
  | .hbm, ⟨63, _⟩ => ⟨S2x8x16x128x64, .f32⟩
  | .hbm, ⟨64, _⟩ => ⟨S_, .f32⟩
  | .hbm, ⟨65, _⟩ => ⟨S2x16x128, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S2x8x16x128x1, .i32⟩
  | .hbm, ⟨71, _⟩ => ⟨S1x1x1x1x512, .i32⟩
  | .hbm, ⟨72, _⟩ => ⟨S2x8x16x128x512, .i32⟩
  | .hbm, ⟨73, _⟩ => ⟨S2x8x16x128x512, .i32⟩
  | .hbm, ⟨74, _⟩ => ⟨S2x8x16x128x512, .i1⟩
  | .hbm, ⟨75, _⟩ => ⟨S2x8x16x128x512, .f32⟩
  | .hbm, ⟨76, _⟩ => ⟨S8x512x64, .f32⟩
  | .hbm, ⟨77, _⟩ => ⟨S_, .f32⟩
  | .hbm, ⟨78, _⟩ => ⟨S8x512x64, .f32⟩
  | .hbm, ⟨79, _⟩ => ⟨S8x512x64, .f32⟩
  | .hbm, ⟨80, _⟩ => ⟨S_, .f32⟩
  | .hbm, ⟨81, _⟩ => ⟨S8x512, .f32⟩
  | .hbm, ⟨82, _⟩ => ⟨S_, .f32⟩
  | .hbm, ⟨83, _⟩ => ⟨S8x512, .f32⟩
  | .hbm, ⟨84, _⟩ => ⟨S8x512, .f32⟩
  | .hbm, ⟨85, _⟩ => ⟨S_, .f32⟩
  | .hbm, ⟨86, _⟩ => ⟨S8x512x64, .f32⟩
  | .hbm, ⟨87, _⟩ => ⟨S8x512x64, .f32⟩
  | .hbm, ⟨88, _⟩ => ⟨S_, .f32⟩
  | .hbm, ⟨89, _⟩ => ⟨S8x512x64, .f32⟩
  | .hbm, ⟨90, _⟩ => ⟨S8x512x64, .f32⟩
  | .hbm, ⟨91, _⟩ => ⟨S8x512x64, .f32⟩
  | .hbm, ⟨92, _⟩ => ⟨S_, .f32⟩
  | .hbm, ⟨93, _⟩ => ⟨S8x512, .f32⟩
  | .hbm, ⟨94, _⟩ => ⟨S8x512, .f32⟩
  | .hbm, ⟨95, _⟩ => ⟨S_, .f32⟩
  | .hbm, ⟨96, _⟩ => ⟨S8x512, .f32⟩
  | .hbm, ⟨97, _⟩ => ⟨S8x512, .f32⟩
  | .hbm, ⟨98, _⟩ => ⟨S8x512, .f32⟩
  | .hbm, ⟨99, _⟩ => ⟨S8x512x64, .f32⟩
  | .hbm, ⟨100, _⟩ => ⟨S8x512x64, .f32⟩
  | .hbm, ⟨101, _⟩ => ⟨S8x512x64, .f32⟩
  | .hbm, ⟨102, _⟩ => ⟨S_, .f32⟩
  | .hbm, ⟨103, _⟩ => ⟨S_, .f32⟩
  | .hbm, ⟨104, _⟩ => ⟨S8x512, .f32⟩
  | .hbm, ⟨105, _⟩ => ⟨S8x512, .f32⟩
  | .hbm, ⟨106, _⟩ => ⟨S8x512, .f32⟩
  | .hbm, ⟨107, _⟩ => ⟨S_, .f32⟩
  | .hbm, ⟨108, _⟩ => ⟨S_, .f32⟩
  | .hbm, ⟨109, _⟩ => ⟨S_, .f32⟩
  | _, _ => ⟨S2x8x16x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_call0_v0 : Ref sig .tc := ⟨.hbm, 5, rfl⟩
abbrev main_call0_v1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call1_v0 : Ref sig .tc := ⟨.hbm, 27, rfl⟩
abbrev main_call1_cst : Ref sig .tc := ⟨.hbm, 28, rfl⟩
abbrev main_call1_c : Ref sig .tc := ⟨.hbm, 29, rfl⟩
abbrev main_call1_v1_0 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_call2_cst : Ref sig .tc := ⟨.hbm, 34, rfl⟩
abbrev main_call2_v0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call3_c : Ref sig .tc := ⟨.hbm, 39, rfl⟩
abbrev main_call3_v0 : Ref sig .tc := ⟨.hbm, 40, rfl⟩
abbrev main_call3_v1 : Ref sig .tc := ⟨.hbm, 41, rfl⟩
abbrev main_call3_c_0 : Ref sig .tc := ⟨.hbm, 42, rfl⟩
abbrev main_call3_v2 : Ref sig .tc := ⟨.hbm, 43, rfl⟩
abbrev main_call3_v3 : Ref sig .tc := ⟨.hbm, 44, rfl⟩
abbrev main_call3_v4 : Ref sig .tc := ⟨.hbm, 45, rfl⟩
abbrev main_call3_v5 : Ref sig .tc := ⟨.hbm, 46, rfl⟩
abbrev main_call3_c_1 : Ref sig .tc := ⟨.hbm, 47, rfl⟩
abbrev main_call3_c_2 : Ref sig .tc := ⟨.hbm, 48, rfl⟩
abbrev main_call3_v6 : Ref sig .tc := ⟨.hbm, 49, rfl⟩
abbrev main_call3_v7 : Ref sig .tc := ⟨.hbm, 50, rfl⟩
abbrev main_call3_v8 : Ref sig .tc := ⟨.hbm, 51, rfl⟩
abbrev main_call3_v9 : Ref sig .tc := ⟨.hbm, 52, rfl⟩
abbrev main_call3_v10 : Ref sig .tc := ⟨.hbm, 53, rfl⟩
abbrev main_call3_v11 : Ref sig .tc := ⟨.hbm, 54, rfl⟩
abbrev main_call3_c_3 : Ref sig .tc := ⟨.hbm, 55, rfl⟩
abbrev main_call3_v12 : Ref sig .tc := ⟨.hbm, 56, rfl⟩
abbrev main_call3_v13 : Ref sig .tc := ⟨.hbm, 57, rfl⟩
abbrev main_call3_v14 : Ref sig .tc := ⟨.hbm, 58, rfl⟩
abbrev main_call3_cst : Ref sig .tc := ⟨.hbm, 59, rfl⟩
abbrev main_call3_v15 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_cst_4 : Ref sig .tc := ⟨.hbm, 64, rfl⟩
abbrev main_v26 : Ref sig .tc := ⟨.hbm, 65, rfl⟩
abbrev main_cst_5 : Ref sig .tc := ⟨.hbm, 66, rfl⟩
abbrev main_v27 : Ref sig .tc := ⟨.hbm, 67, rfl⟩
abbrev main_cst_6 : Ref sig .tc := ⟨.hbm, 68, rfl⟩
abbrev main_v28 : Ref sig .tc := ⟨.hbm, 69, rfl⟩
abbrev main_call4_v0 : Ref sig .tc := ⟨.hbm, 70, rfl⟩
abbrev main_call4_v1 : Ref sig .tc := ⟨.hbm, 71, rfl⟩
abbrev main_call4_v2 : Ref sig .tc := ⟨.hbm, 72, rfl⟩
abbrev main_call4_v3 : Ref sig .tc := ⟨.hbm, 73, rfl⟩
abbrev main_call4_v4 : Ref sig .tc := ⟨.hbm, 74, rfl⟩
abbrev main_v29 : Ref sig .tc := ⟨.hbm, 75, rfl⟩
abbrev main_v30 : Ref sig .tc := ⟨.hbm, 76, rfl⟩
abbrev main_cst_7 : Ref sig .tc := ⟨.hbm, 77, rfl⟩
abbrev main_v31 : Ref sig .tc := ⟨.hbm, 78, rfl⟩
abbrev main_v32 : Ref sig .tc := ⟨.hbm, 79, rfl⟩
abbrev main_cst_8 : Ref sig .tc := ⟨.hbm, 80, rfl⟩
abbrev main_v33 : Ref sig .tc := ⟨.hbm, 81, rfl⟩
abbrev main_cst_9 : Ref sig .tc := ⟨.hbm, 82, rfl⟩
abbrev main_v34 : Ref sig .tc := ⟨.hbm, 83, rfl⟩
abbrev main_v35 : Ref sig .tc := ⟨.hbm, 84, rfl⟩
abbrev main_cst_10 : Ref sig .tc := ⟨.hbm, 85, rfl⟩
abbrev main_v36 : Ref sig .tc := ⟨.hbm, 86, rfl⟩
abbrev main_v37 : Ref sig .tc := ⟨.hbm, 87, rfl⟩
abbrev main_cst_11 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_cst_12 : Ref sig .tc := ⟨.hbm, 92, rfl⟩
abbrev main_v41 : Ref sig .tc := ⟨.hbm, 93, rfl⟩
abbrev main_v42 : Ref sig .tc := ⟨.hbm, 94, rfl⟩
abbrev main_cst_13 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_cst_14 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_cst_15 : Ref sig .tc := ⟨.hbm, 107, rfl⟩
abbrev main_v53 : Ref sig .tc := ⟨.hbm, 108, rfl⟩
abbrev main_v54 : Ref sig .tc := ⟨.hbm, 109, rfl⟩

abbrev nD : Nat := 1
abbrev τ : Topo := Topo.v7x

variable {F : FTy → Type} [FloatOps F]
-- ==== Proof.Body.lean ====
/- The body of the idealized kernel, run once on whole staging memrefs: which pieces its stores leave in each output. -/
module

public import proofs.«01_k».proof.Proof.Gen.KernelIdeal.Frame
public import proofs.«01_k».proof.Proof.Gen.KernelIdeal.Skeleton
public import Idealize.ShloMosaic.Lib.Ring
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The pieces the body's stores leave in the four outputs (last first), with the proof that on whole staging memrefs,
    the inputs' at their contents, the running total's at `x6` and the other outputs' at anything, the body runs to its
    end with the inputs kept and each output's buffer overwritten by its pieces. -/
noncomputable def bodyRun (c : Dev nD) (i : grid0.Coords) (arg1 : Memref sig .tc .vmem S2x1x16x64x128 .f32) (harg1 : arg1.IsWhole) (arg2 : Memref sig .tc .vmem S1x512x64 .f32) (harg2 : arg2.IsWhole) (arg3 : Memref sig .tc .vmem S1x512x1 .f32) (harg3 : arg3.IsWhole) (arg4 : Memref sig .tc .vmem S2x1x16x64x128 .f32) (harg4 : arg4.IsWhole) (arg5 : Memref sig .tc .vmem S2x1x16x128 .i32) (harg5 : arg5.IsWhole) (arg6 : Memref sig .tc .vmem S2x1x16x128 .f32) (harg6 : arg6.IsWhole) (arg7 : Memref sig .tc .smem S1x1 .f32) (harg7 : arg7.IsWhole)
    (x0 : Vec F S2x1x16x64x128 .f32) (x1 : Vec F S1x512x64 .f32) (x2 : Vec F S1x512x1 .f32) (x6 : Vec F S1x1 .f32) :
    Σ' (L3 : List (View.Piece (Elt F) S2x1x16x64x128 .f32)), Σ' (L4 : List (View.Piece (Elt F) S2x1x16x128 .i32)), Σ' (L5 : List (View.Piece (Elt F) S2x1x16x128 .f32)), { L6 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare x6
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)) -∗ K ⟨⟩))
          ⊢ wp frame (wpE (defs₀ (F := F)) Variants.none c none) E (cc0__vq_body i arg1 harg1 arg2 harg2 arg3 harg3 arg4 harg4 arg5 harg5 arg6 harg6 arg7 harg7) K } := by
  refine ⟨?_, ?_, ?_, ?_, fun E K => ?run⟩
  case run =>
    simp only [cc0__vq_body_eq_skeleton]; unfold cc0__vq_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%f6, %hf6, H6⟩, Hk⟩
    obtain rfl := harg1.eq_unread hf0; obtain rfl := harg2.eq_unread hf1; obtain rfl := harg3.eq_unread hf2; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    iexists _; iexact H6

end Cert.KernelIdeal.Hand

end
-- ==== Proof.Block.lean ====
/- What one grid point leaves in the four outputs, as named functions of the three input blocks and the running total. -/
module

public import proofs.«01_k».proof.Proof.Body
public import Idealize.ShloMosaic.Lib.Pipeline.Value
public import Idealize.ShloMosaic.Lib.Pipeline.FrameBody
public import Idealize.ShloMosaic.Lib.WholeRead
public import Idealize.ShloMosaic.Lib.ValueIdxCore
public import Idealize.ShloMosaic.Lib.ValueLayoutCasts
public import Idealize.ShloMosaic.Lib.LayoutAt

@[expose] public section

set_option maxRecDepth 16384

noncomputable section

namespace Cert.KernelIdeal.Hand

open Cert.KernelIdeal.Gen
open Idealize.ShloMosaic Idealize.ShloMosaic.TcCoe Idealize.ShloMosaic.Tactic Idealize.ShloMosaic.ValueIdx
open Idealize.SL.Sem

variable {F : FTy → Type} [FloatOps F]

/-- Slab `n` of a block of vectors: batch entry `n / 16`, row `n % 16`, as a 64 × 128 matrix (coordinate by column). -/
def slab (x0 : Vec F S2x1x16x64x128 .f32) (n : Fin 32) : FVec F S64x128 .f32 := fun k =>
  x0 (ix5 ⟨n.val / 16, by omega⟩ 0 ⟨n.val % 16, by omega⟩ (k 0) (k 1))

/-- The block's 4096 vectors as the columns of one matrix, slab after slab. -/
def cols (x0 : Vec F S2x1x16x64x128 .f32) : FVec F S64x4096 .f32 := fun j =>
  slab x0 ⟨(j 1).val / 128, by have : (j 1).val < 4096 := (j 1).isLt; omega⟩ (ix2 (j 0) ⟨(j 1).val % 128, by omega⟩)

/-- The squared distances: column norms, plus the products with the scaled codewords, plus the codeword norms. -/
def dist (c2 : FVec F S512x64 .f32) (cn : FVec F S512x1 .f32) (v : FVec F S64x4096 .f32) : FVec F S512x4096 .f32 :=
  addf (addf (broadcastTo S512x4096 (shapeCast S1x4096 (multiReduction .add [0] S4096 (mulf v v) 0x00000000#32 reduces_S64x4096_S4096 (.inl rfl) rfl) shapeCasts_S4096_S1x4096) broadcasts_S1x4096_S512x4096)
    (matmul dot_S512x64_S64x4096_S512x4096_1_0_0_1_n_n none c2 v (constant S512x4096 .f32 0x00000000#32)))
    (broadcastTo S512x4096 cn broadcasts_S512x1_S512x4096)

/-- The least distance of each column. -/
def least (d : FVec F S512x4096 .f32) : FVec F S1x4096 .f32 :=
  shapeCast S1x4096 (multiReduction .minimumf [0] S4096 d 0x7F800000#32 reduces_S512x4096_S4096 (.inl rfl) rfl) shapeCasts_S4096_S1x4096

/-- The least codeword number, as a float, at which a column's distance is the least. -/
def pick (d : FVec F S512x4096 .f32) : FVec F S1x4096 .f32 :=
  shapeCast S1x4096 (multiReduction .minimumf [0] S4096
    (select (cmpf .oeq d (broadcastTo S512x4096 (least d) broadcasts_S1x4096_S512x4096))
      (broadcastTo S512x4096 (shapeCast S512x1 (k0_pay41 (F := F)) shapeCasts_S512x1_S512x1) broadcasts_S512x1_S512x4096)
      (broadcast S512x4096 (Scalar.ofBits .f32 0x44000000#32)))
    0x7F800000#32 reduces_S512x4096_S4096 (.inl rfl) rfl) shapeCasts_S4096_S1x4096

/-- The codewords picked, one column each: the codeword matrix against the picks' indicator matrix. -/
def picked (cw : FVec F S512x64 .f32) (p : FVec F S1x4096 .f32) : FVec F S64x4096 .f32 :=
  matmul dot_S512x64_S512x4096_S64x4096_0_0_1_1_n_n none cw
    (sitofp .f32 (extui 32 (cmpf .oeq (broadcastTo S512x4096 (k0_pay41 (F := F)) broadcasts_S512x1_S512x4096)
      (broadcastTo S512x4096 p broadcasts_S1x4096_S512x4096)) natLt_1_32))
    (constant S64x4096 .f32 0x00000000#32)

/-- A point's distances, from its three input blocks. -/
def distOf (x0 : Vec F S2x1x16x64x128 .f32) (x1 : Vec F S1x512x64 .f32) (x2 : Vec F S1x512x1 .f32) : FVec F S512x4096 .f32 :=
  dist (k0_pay6 x1 x2) (k0_pay7 x1 x2) (cols x0)

/-- A point's picked codewords, one column each. -/
def czOf (x0 : Vec F S2x1x16x64x128 .f32) (x1 : Vec F S1x512x64 .f32) (x2 : Vec F S1x512x1 .f32) : FVec F S64x4096 .f32 :=
  picked (k0_pay5 x1 x2) (pick (distOf x0 x1 x2))

/-- A 64 × 4096 matrix laid out as a block: slab `16 b + r` of its columns at batch entry `b`, row `r`. -/
def lay (cz : FVec F S64x4096 .f32) : Vec F S2x1x16x64x128 .f32 := fun i =>
  cz (ix2 (i 3) ⟨((i 0).val * 16 + (i 2).val) * 128 + (i 4).val, by
    have h0 : (i 0).val < 2 := (i 0).isLt
    have h2 : (i 2).val < 16 := (i 2).isLt
    have h4 : (i 4).val < 128 := (i 4).isLt
    omega⟩)

/-- The block of quantised vectors a point leaves. -/
def out3 (x0 : Vec F S2x1x16x64x128 .f32) (x1 : Vec F S1x512x64 .f32) (x2 : Vec F S1x512x1 .f32) : Vec F S2x1x16x64x128 .f32 :=
  lay (czOf x0 x1 x2)

/-- The block of codeword numbers a point leaves. -/
def out4 (x0 : Vec F S2x1x16x64x128 .f32) (x1 : Vec F S1x512x64 .f32) (x2 : Vec F S1x512x1 .f32) : Vec F S2x1x16x128 .i32 :=
  k0_pay1 (pick (distOf x0 x1 x2))

/-- The block of squared errors a point leaves. -/
def out5 (x0 : Vec F S2x1x16x64x128 .f32) (x1 : Vec F S1x512x64 .f32) (x2 : Vec F S1x512x1 .f32) : Vec F S2x1x16x128 .f32 :=
  k0_pay3 (least (distOf x0 x1 x2))

/-- The running total a point leaves, from the one it found. -/
def out6 (i : grid0.Coords) (x0 : Vec F S2x1x16x64x128 .f32) (x1 : Vec F S1x512x64 .f32) (x2 : Vec F S1x512x1 .f32) (x6 : Vec F S1x1 .f32) : Vec F S1x1 .f32 :=
  fun _ => k0_pay4 (BitVec.ofNat 32 (i 0).val) (least (distOf x0 x1 x2)) (x6 (ix2 0 0))

/-- Thirty-two equal slabs laid side by side, read at an index. -/
theorem cat_slabs (x0 : Vec F S2x1x16x64x128 .f32)
    (h : Shape.Concatenates ([⟨S64x128, slab x0 0⟩, ⟨S64x128, slab x0 1⟩, ⟨S64x128, slab x0 2⟩, ⟨S64x128, slab x0 3⟩, ⟨S64x128, slab x0 4⟩, ⟨S64x128, slab x0 5⟩, ⟨S64x128, slab x0 6⟩, ⟨S64x128, slab x0 7⟩, ⟨S64x128, slab x0 8⟩, ⟨S64x128, slab x0 9⟩, ⟨S64x128, slab x0 10⟩, ⟨S64x128, slab x0 11⟩, ⟨S64x128, slab x0 12⟩, ⟨S64x128, slab x0 13⟩, ⟨S64x128, slab x0 14⟩, ⟨S64x128, slab x0 15⟩, ⟨S64x128, slab x0 16⟩, ⟨S64x128, slab x0 17⟩, ⟨S64x128, slab x0 18⟩, ⟨S64x128, slab x0 19⟩, ⟨S64x128, slab x0 20⟩, ⟨S64x128, slab x0 21⟩, ⟨S64x128, slab x0 22⟩, ⟨S64x128, slab x0 23⟩, ⟨S64x128, slab x0 24⟩, ⟨S64x128, slab x0 25⟩, ⟨S64x128, slab x0 26⟩, ⟨S64x128, slab x0 27⟩, ⟨S64x128, slab x0 28⟩, ⟨S64x128, slab x0 29⟩, ⟨S64x128, slab x0 30⟩, ⟨S64x128, slab x0 31⟩].map ((·.1) : ((s : Shape) × (s.Idx → F .f32)) → Shape)) S64x4096 1) :
    concatenate S64x4096 1 _ h = cols x0 := by
  funext j
  have hj : (j 1).val < 4096 := (j 1).isLt
  exact concatenate_ofFn_apply (t := S64x4096) (s₁ := S64x128) 1 (slab x0) h rfl 128 rfl j ⟨(j 1).val / 128, by omega⟩ rfl
    (ix2 (j 0) ⟨(j 1).val % 128, by omega⟩) rfl (fun b hb => match b with
      | ⟨0, _⟩ => rfl
      | ⟨1, _⟩ => absurd rfl hb)

/-- A load of one slab out of a whole buffer that reads `x0`, flattened, is that slab. -/
theorem slab_read (arg : Memref sig .tc .vmem S2x1x16x64x128 .f32) (harg : arg.IsWhole) (x0 : Vec F S2x1x16x64x128 .f32)
    (n : Fin 32) (b r : ℕ) (hb : b = n.val / 16) (hr : r = n.val % 16)
    (inb : ∀ a, (![b, 0, r, 0, 0] : Fin 5 → ℕ) a + S1x1x1x64x128.size a ≤ S2x1x16x64x128.size a) :
    shapeCast S64x128 (View.readAt (Elt F) arg.view (Rect.unit (s := S2x1x16x64x128) ![b, 0, r, 0, 0] S1x1x1x64x128.size inb).toLoadRect (harg.unread x0))
      shapeCasts_S1x1x1x64x128_S64x128 = slab x0 n := by
  subst hb hr
  funext k
  rw [shapeCast_apply (s := S1x1x1x64x128) _ _ k (ix5 0 0 0 (k 0) (k 1)) (by
    rw [Shape.rowMajor_val_five, Shape.rowMajor_val_two];
    show (((0 * 1 + 0) * 1 + 0) * 64 + (k 0).val) * 128 + (k 1).val = (k 0).val * 128 + (k 1).val
    omega)]
  rw [harg.readAt_unread]
  refine congrArg x0 (funext fun a => Fin.ext ?_)
  match a with
  | ⟨0, _⟩ => rfl
  | ⟨1, _⟩ => rfl
  | ⟨2, _⟩ => rfl
  | ⟨3, _⟩ => show 0 + 1 * (k 0).val = (k 0).val; omega
  | ⟨4, _⟩ => show 0 + 1 * (k 1).val = (k 1).val; omega

/-- The distances of thirty-one slabs and the last one as loaded are the block's distances. -/
theorem pay39_slabs (c2 : FVec F S512x64 .f32) (cn : FVec F S512x1 .f32) (x0 : Vec F S2x1x16x64x128 .f32) (w : Vec F S1x1x1x64x128 .f32)
    (hw : shapeCast S64x128 w shapeCasts_S1x1x1x64x128_S64x128 = slab x0 31) :
    k0_pay39 c2 cn (slab x0 0) (slab x0 1) (slab x0 2) (slab x0 3) (slab x0 4) (slab x0 5) (slab x0 6) (slab x0 7) (slab x0 8) (slab x0 9) (slab x0 10) (slab x0 11) (slab x0 12) (slab x0 13) (slab x0 14) (slab x0 15) (slab x0 16) (slab x0 17) (slab x0 18) (slab x0 19) (slab x0 20) (slab x0 21) (slab x0 22) (slab x0 23) (slab x0 24) (slab x0 25) (slab x0 26) (slab x0 27) (slab x0 28) (slab x0 29) (slab x0 30) w = dist c2 cn (cols x0) := by
  have e : k0_pay39 c2 cn (slab x0 0) (slab x0 1) (slab x0 2) (slab x0 3) (slab x0 4) (slab x0 5) (slab x0 6) (slab x0 7) (slab x0 8) (slab x0 9) (slab x0 10) (slab x0 11) (slab x0 12) (slab x0 13) (slab x0 14) (slab x0 15) (slab x0 16) (slab x0 17) (slab x0 18) (slab x0 19) (slab x0 20) (slab x0 21) (slab x0 22) (slab x0 23) (slab x0 24) (slab x0 25) (slab x0 26) (slab x0 27) (slab x0 28) (slab x0 29) (slab x0 30) w
      = dist c2 cn (concatenate S64x4096 1 [⟨S64x128, slab x0 0⟩, ⟨S64x128, slab x0 1⟩, ⟨S64x128, slab x0 2⟩, ⟨S64x128, slab x0 3⟩, ⟨S64x128, slab x0 4⟩, ⟨S64x128, slab x0 5⟩, ⟨S64x128, slab x0 6⟩, ⟨S64x128, slab x0 7⟩, ⟨S64x128, slab x0 8⟩, ⟨S64x128, slab x0 9⟩, ⟨S64x128, slab x0 10⟩, ⟨S64x128, slab x0 11⟩, ⟨S64x128, slab x0 12⟩, ⟨S64x128, slab x0 13⟩, ⟨S64x128, slab x0 14⟩, ⟨S64x128, slab x0 15⟩, ⟨S64x128, slab x0 16⟩, ⟨S64x128, slab x0 17⟩, ⟨S64x128, slab x0 18⟩, ⟨S64x128, slab x0 19⟩, ⟨S64x128, slab x0 20⟩, ⟨S64x128, slab x0 21⟩, ⟨S64x128, slab x0 22⟩, ⟨S64x128, slab x0 23⟩, ⟨S64x128, slab x0 24⟩, ⟨S64x128, slab x0 25⟩, ⟨S64x128, slab x0 26⟩, ⟨S64x128, slab x0 27⟩, ⟨S64x128, slab x0 28⟩, ⟨S64x128, slab x0 29⟩, ⟨S64x128, slab x0 30⟩, ⟨S64x128, shapeCast S64x128 w shapeCasts_S1x1x1x64x128_S64x128⟩] concatenates_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x4096_d1) := rfl
  rw [e]
  generalize shapeCast S64x128 w shapeCasts_S1x1x1x64x128_S64x128 = s at hw ⊢
  subst hw
  rw [cat_slabs]

/-- The distances the body computes from its loads are the block's distances. -/
theorem dist_run (c : Dev nD) (arg1 : Memref sig .tc .vmem S2x1x16x64x128 .f32) (harg1 : arg1.IsWhole) (arg2 : Memref sig .tc .vmem S1x512x64 .f32) (harg2 : arg2.IsWhole) (arg3 : Memref sig .tc .vmem S1x512x1 .f32) (harg3 : arg3.IsWhole)
    (x0 : Vec F S2x1x16x64x128 .f32) (x1 : Vec F S1x512x64 .f32) (x2 : Vec F S1x512x1 .f32) (c2 : FVec F S512x64 .f32) (cn : FVec F S512x1 .f32) :
    k0_pay39 c2 cn (bodyRun.sl.r_3 c arg1 harg1 x0) (bodyRun.sl.r_4 c arg1 harg1 x0) (bodyRun.sl.r_5 c arg1 harg1 x0) (bodyRun.sl.r_6 c arg1 harg1 x0) (bodyRun.sl.r_7 c arg1 harg1 x0) (bodyRun.sl.r_8 c arg1 harg1 x0) (bodyRun.sl.r_9 c arg1 harg1 x0) (bodyRun.sl.r_10 c arg1 harg1 x0) (bodyRun.sl.r_11 c arg1 harg1 x0) (bodyRun.sl.r_12 c arg1 harg1 x0) (bodyRun.sl.r_13 c arg1 harg1 x0) (bodyRun.sl.r_14 c arg1 harg1 x0) (bodyRun.sl.r_15 c arg1 harg1 x0) (bodyRun.sl.r_17 c arg1 harg1 x0) (bodyRun.sl.r_18 c arg1 harg1 x0) (bodyRun.sl.r_19 c arg1 harg1 x0) (bodyRun.sl.r_20 c arg1 harg1 x0) (bodyRun.sl.r_21 c arg1 harg1 x0) (bodyRun.sl.r_22 c arg1 harg1 x0) (bodyRun.sl.r_23 c arg1 harg1 x0) (bodyRun.sl.r_24 c arg1 harg1 x0) (bodyRun.sl.r_25 c arg1 harg1 x0) (bodyRun.sl.r_26 c arg1 harg1 x0) (bodyRun.sl.r_27 c arg1 harg1 x0) (bodyRun.sl.r_28 c arg1 harg1 x0) (bodyRun.sl.r_29 c arg1 harg1 x0) (bodyRun.sl.r_30 c arg1 harg1 x0) (bodyRun.sl.r_31 c arg1 harg1 x0) (bodyRun.sl.r_32 c arg1 harg1 x0) (bodyRun.sl.r_33 c arg1 harg1 x0) (bodyRun.sl.r_34 c arg1 harg1 x0)
      (View.readAt (Elt F) arg1.view (Rect.unit (s := S2x1x16x64x128) ![1, 0, 15, 0, 0] S1x1x1x64x128.size inb_S2x1x16x64x128_S1x1x1x64x128_1_0_15_0_0).toLoadRect (harg1.unread x0)) = dist c2 cn (cols x0) := by
  have e0 : bodyRun.sl.r_3 c arg1 harg1 x0 = slab x0 0 := slab_read arg1 harg1 x0 0 0 0 rfl rfl _
  have e1 : bodyRun.sl.r_4 c arg1 harg1 x0 = slab x0 1 := slab_read arg1 harg1 x0 1 0 1 rfl rfl _
  have e2 : bodyRun.sl.r_5 c arg1 harg1 x0 = slab x0 2 := slab_read arg1 harg1 x0 2 0 2 rfl rfl _
  have e3 : bodyRun.sl.r_6 c arg1 harg1 x0 = slab x0 3 := slab_read arg1 harg1 x0 3 0 3 rfl rfl _
  have e4 : bodyRun.sl.r_7 c arg1 harg1 x0 = slab x0 4 := slab_read arg1 harg1 x0 4 0 4 rfl rfl _
  have e5 : bodyRun.sl.r_8 c arg1 harg1 x0 = slab x0 5 := slab_read arg1 harg1 x0 5 0 5 rfl rfl _
  have e6 : bodyRun.sl.r_9 c arg1 harg1 x0 = slab x0 6 := slab_read arg1 harg1 x0 6 0 6 rfl rfl _
  have e7 : bodyRun.sl.r_10 c arg1 harg1 x0 = slab x0 7 := slab_read arg1 harg1 x0 7 0 7 rfl rfl _
  have e8 : bodyRun.sl.r_11 c arg1 harg1 x0 = slab x0 8 := slab_read arg1 harg1 x0 8 0 8 rfl rfl _
  have e9 : bodyRun.sl.r_12 c arg1 harg1 x0 = slab x0 9 := slab_read arg1 harg1 x0 9 0 9 rfl rfl _
  have e10 : bodyRun.sl.r_13 c arg1 harg1 x0 = slab x0 10 := slab_read arg1 harg1 x0 10 0 10 rfl rfl _
  have e11 : bodyRun.sl.r_14 c arg1 harg1 x0 = slab x0 11 := slab_read arg1 harg1 x0 11 0 11 rfl rfl _
  have e12 : bodyRun.sl.r_15 c arg1 harg1 x0 = slab x0 12 := slab_read arg1 harg1 x0 12 0 12 rfl rfl _
  have e13 : bodyRun.sl.r_17 c arg1 harg1 x0 = slab x0 13 := slab_read arg1 harg1 x0 13 0 13 rfl rfl _
  have e14 : bodyRun.sl.r_18 c arg1 harg1 x0 = slab x0 14 := slab_read arg1 harg1 x0 14 0 14 rfl rfl _
  have e15 : bodyRun.sl.r_19 c arg1 harg1 x0 = slab x0 15 := slab_read arg1 harg1 x0 15 0 15 rfl rfl _
  have e16 : bodyRun.sl.r_20 c arg1 harg1 x0 = slab x0 16 := slab_read arg1 harg1 x0 16 1 0 rfl rfl _
  have e17 : bodyRun.sl.r_21 c arg1 harg1 x0 = slab x0 17 := slab_read arg1 harg1 x0 17 1 1 rfl rfl _
  have e18 : bodyRun.sl.r_22 c arg1 harg1 x0 = slab x0 18 := slab_read arg1 harg1 x0 18 1 2 rfl rfl _
  have e19 : bodyRun.sl.r_23 c arg1 harg1 x0 = slab x0 19 := slab_read arg1 harg1 x0 19 1 3 rfl rfl _
  have e20 : bodyRun.sl.r_24 c arg1 harg1 x0 = slab x0 20 := slab_read arg1 harg1 x0 20 1 4 rfl rfl _
  have e21 : bodyRun.sl.r_25 c arg1 harg1 x0 = slab x0 21 := slab_read arg1 harg1 x0 21 1 5 rfl rfl _
  have e22 : bodyRun.sl.r_26 c arg1 harg1 x0 = slab x0 22 := slab_read arg1 harg1 x0 22 1 6 rfl rfl _
  have e23 : bodyRun.sl.r_27 c arg1 harg1 x0 = slab x0 23 := slab_read arg1 harg1 x0 23 1 7 rfl rfl _
  have e24 : bodyRun.sl.r_28 c arg1 harg1 x0 = slab x0 24 := slab_read arg1 harg1 x0 24 1 8 rfl rfl _
  have e25 : bodyRun.sl.r_29 c arg1 harg1 x0 = slab x0 25 := slab_read arg1 harg1 x0 25 1 9 rfl rfl _
  have e26 : bodyRun.sl.r_30 c arg1 harg1 x0 = slab x0 26 := slab_read arg1 harg1 x0 26 1 10 rfl rfl _
  have e27 : bodyRun.sl.r_31 c arg1 harg1 x0 = slab x0 27 := slab_read arg1 harg1 x0 27 1 11 rfl rfl _
  have e28 : bodyRun.sl.r_32 c arg1 harg1 x0 = slab x0 28 := slab_read arg1 harg1 x0 28 1 12 rfl rfl _
  have e29 : bodyRun.sl.r_33 c arg1 harg1 x0 = slab x0 29 := slab_read arg1 harg1 x0 29 1 13 rfl rfl _
  have e30 : bodyRun.sl.r_34 c arg1 harg1 x0 = slab x0 30 := slab_read arg1 harg1 x0 30 1 14 rfl rfl _
  rw [e0, e1, e2, e3, e4, e5, e6, e7, e8, e9, e10, e11, e12, e13, e14, e15, e16, e17, e18, e19, e20, e21, e22, e23, e24, e25, e26, e27, e28, e29, e30]
  exact pay39_slabs c2 cn x0 _ (slab_read arg1 harg1 x0 31 1 15 rfl rfl _)

/-- The body's codewords, scaled codewords and codeword norms are those of the blocks it loads from. -/
theorem code_run (c : Dev nD) (arg1 : Memref sig .tc .vmem S2x1x16x64x128 .f32) (harg1 : arg1.IsWhole) (arg2 : Memref sig .tc .vmem S1x512x64 .f32) (harg2 : arg2.IsWhole) (arg3 : Memref sig .tc .vmem S1x512x1 .f32) (harg3 : arg3.IsWhole)
    (x0 : Vec F S2x1x16x64x128 .f32) (x1 : Vec F S1x512x64 .f32) (x2 : Vec F S1x512x1 .f32) :
    bodyRun.sl.r c arg2 harg2 arg3 harg3 x1 x2 = k0_pay5 x1 x2 ∧ bodyRun.sl.r_1 c arg2 harg2 arg3 harg3 x1 x2 = k0_pay6 x1 x2
      ∧ bodyRun.sl.r_2 c arg2 harg2 arg3 harg3 x1 x2 = k0_pay7 x1 x2 := by
  refine ⟨?_, ?_, ?_⟩ <;> [unfold bodyRun.sl.r; unfold bodyRun.sl.r_1; unfold bodyRun.sl.r_2] <;>
    rw [View.readAt_eq_ld, View.readAt_eq_ld, View.ld_unit_zero (by decide), View.ld_unit_zero (by decide), harg2.read_unread, harg3.read_unread]

/-- The least distances, the picks and the picked codewords the body computes are the block's. -/
theorem picks_run (c : Dev nD) (arg1 : Memref sig .tc .vmem S2x1x16x64x128 .f32) (harg1 : arg1.IsWhole) (arg2 : Memref sig .tc .vmem S1x512x64 .f32) (harg2 : arg2.IsWhole) (arg3 : Memref sig .tc .vmem S1x512x1 .f32) (harg3 : arg3.IsWhole)
    (x0 : Vec F S2x1x16x64x128 .f32) (x1 : Vec F S1x512x64 .f32) (x2 : Vec F S1x512x1 .f32) :
    bodyRun.sl.r_35 c arg1 harg1 arg2 harg2 arg3 harg3 x0 x1 x2 = least (distOf x0 x1 x2) ∧ bodyRun.sl.r_36 c arg1 harg1 arg2 harg2 arg3 harg3 x0 x1 x2 = pick (distOf x0 x1 x2) ∧ bodyRun.sl.r_37 c arg1 harg1 arg2 harg2 arg3 harg3 x0 x1 x2 = czOf x0 x1 x2 := by
  obtain ⟨hc, h2, hn⟩ := code_run c arg1 harg1 arg2 harg2 arg3 harg3 x0 x1 x2
  have hd := dist_run c arg1 harg1 arg2 harg2 arg3 harg3 x0 x1 x2 (k0_pay6 x1 x2) (k0_pay7 x1 x2)
  have h5 : bodyRun.sl.r_35 c arg1 harg1 arg2 harg2 arg3 harg3 x0 x1 x2 = least (distOf x0 x1 x2) := by
    unfold bodyRun.sl.r_35
    rw [h2, hn]
    exact congrArg least hd
  have h6 : bodyRun.sl.r_36 c arg1 harg1 arg2 harg2 arg3 harg3 x0 x1 x2 = pick (distOf x0 x1 x2) := by
    unfold bodyRun.sl.r_36
    rw [h2, hn]
    exact congrArg pick hd
  refine ⟨h5, h6, ?_⟩
  unfold bodyRun.sl.r_37
  rw [hc, h2, hn]
  exact congrArg (fun d => picked (k0_pay5 x1 x2) (pick d)) hd

/-- A slab of columns cut from the matrix and stored at its place is the matrix laid out there. -/
theorem lay_piece (cz : FVec F S64x4096 .f32) (b r o : ℕ) (ho : o = (b * 16 + r) * 128) (hs : S64x4096.Slices ![0, o] S64x128)
    (inb : ∀ a, (![b, 0, r, 0, 0] : Fin 5 → ℕ) a + S1x1x1x64x128.size a ≤ S2x1x16x64x128.size a) (x : S1x1x1x64x128.Idx) :
    shapeCast S1x1x1x64x128 (extractStridedSlice S64x128 ![0, o] cz hs) shapeCasts_S64x128_S1x1x1x64x128 x
      = lay cz ((Rect.unit (s := S2x1x16x64x128) ![b, 0, r, 0, 0] S1x1x1x64x128.size inb).emb x) := by
  have x0 : (x 0).val < 1 := (x 0).isLt
  have x1 : (x 1).val < 1 := (x 1).isLt
  have x2 : (x 2).val < 1 := (x 2).isLt
  refine (shapeCast_apply (s := S64x128) (t := S1x1x1x64x128) (extractStridedSlice S64x128 ![0, o] cz hs) shapeCasts_S64x128_S1x1x1x64x128 x (ix2 (x 3) (x 4)) (by
    rw [Shape.rowMajor_val_five, Shape.rowMajor_val_two]
    show (x 3).val * 128 + (x 4).val = ((((x 0).val * 1 + (x 1).val) * 1 + (x 2).val) * 64 + (x 3).val) * 128 + (x 4).val
    omega)).trans ?_
  refine congrArg cz (funext fun a => Fin.ext ?_)
  subst ho
  match a with
  | ⟨0, _⟩ => show 0 + (x 3).val = 0 + 1 * (x 3).val; omega
  | ⟨1, _⟩ => show (b * 16 + r) * 128 + (x 4).val = ((b + 1 * (x 0).val) * 16 + (r + 1 * (x 2).val)) * 128 + (0 + 1 * (x 4).val); omega

/-- The pieces written to the quantised output, read back, are the block's. -/
theorem out3_run (c : Dev nD) (i : grid0.Coords) (arg1 : Memref sig .tc .vmem S2x1x16x64x128 .f32) (harg1 : arg1.IsWhole) (arg2 : Memref sig .tc .vmem S1x512x64 .f32) (harg2 : arg2.IsWhole) (arg3 : Memref sig .tc .vmem S1x512x1 .f32) (harg3 : arg3.IsWhole) (arg4 : Memref sig .tc .vmem S2x1x16x64x128 .f32) (harg4 : arg4.IsWhole) (arg5 : Memref sig .tc .vmem S2x1x16x128 .i32) (harg5 : arg5.IsWhole) (arg6 : Memref sig .tc .vmem S2x1x16x128 .f32) (harg6 : arg6.IsWhole) (arg7 : Memref sig .tc .smem S1x1 .f32) (harg7 : arg7.IsWhole)
    (x0 : Vec F S2x1x16x64x128 .f32) (x1 : Vec F S1x512x64 .f32) (x2 : Vec F S1x512x1 .f32) (x6 : Vec F S1x1 .f32) (f) :
    arg4.view.read (Elt F) (arg4.view.writes (Elt F) f (bodyRun c i arg1 harg1 arg2 harg2 arg3 harg3 arg4 harg4 arg5 harg5 arg6 harg6 arg7 harg7 x0 x1 x2 x6).1) = out3 x0 x1 x2 := by
  have cover : ∀ y, ∃ p ∈ (bodyRun c i arg1 harg1 arg2 harg2 arg3 harg3 arg4 harg4 arg5 harg5 arg6 harg6 arg7 harg7 x0 x1 x2 x6).1, y ∈ p.1.set := fun y =>
    View.cover_of_tiledL (bodyRun c i arg1 harg1 arg2 harg2 arg3 harg3 arg4 harg4 arg5 harg5 arg6 harg6 arg7 harg7 x0 x1 x2 x6).1 S1x1x1x64x128.size (by sl_kernel_rfl) y
  rw [View.read_writes_eq_canon _ _ _ cover]
  refine (?_ : _ = lay (bodyRun.sl.r_37 c arg1 harg1 arg2 harg2 arg3 harg3 x0 x1 x2)).trans (congrArg lay (picks_run c arg1 harg1 arg2 harg2 arg3 harg3 x0 x1 x2).2.2)
  funext y
  refine View.canon_apply_of_pieces (lay (bodyRun.sl.r_37 c arg1 harg1 arg2 harg2 arg3 harg3 x0 x1 x2)) _ ?_ y (cover y)
  unfold bodyRun
  refine List.forall_mem_cons.mpr ⟨fun x => lay_piece (bodyRun.sl.r_37 c arg1 harg1 arg2 harg2 arg3 harg3 x0 x1 x2) 1 15 3968 rfl slices_S64x4096_o0_3968_S64x128 inb_S2x1x16x64x128_S1x1x1x64x128_1_0_15_0_0 x, ?_⟩
  refine List.forall_mem_cons.mpr ⟨fun x => lay_piece (bodyRun.sl.r_37 c arg1 harg1 arg2 harg2 arg3 harg3 x0 x1 x2) 1 14 3840 rfl slices_S64x4096_o0_3840_S64x128 inb_S2x1x16x64x128_S1x1x1x64x128_1_0_14_0_0 x, ?_⟩
  refine List.forall_mem_cons.mpr ⟨fun x => lay_piece (bodyRun.sl.r_37 c arg1 harg1 arg2 harg2 arg3 harg3 x0 x1 x2) 1 13 3712 rfl slices_S64x4096_o0_3712_S64x128 inb_S2x1x16x64x128_S1x1x1x64x128_1_0_13_0_0 x, ?_⟩
  refine List.forall_mem_cons.mpr ⟨fun x => lay_piece (bodyRun.sl.r_37 c arg1 harg1 arg2 harg2 arg3 harg3 x0 x1 x2) 1 12 3584 rfl slices_S64x4096_o0_3584_S64x128 inb_S2x1x16x64x128_S1x1x1x64x128_1_0_12_0_0 x, ?_⟩
  refine List.forall_mem_cons.mpr ⟨fun x => lay_piece (bodyRun.sl.r_37 c arg1 harg1 arg2 harg2 arg3 harg3 x0 x1 x2) 1 11 3456 rfl slices_S64x4096_o0_3456_S64x128 inb_S2x1x16x64x128_S1x1x1x64x128_1_0_11_0_0 x, ?_⟩
  refine List.forall_mem_cons.mpr ⟨fun x => lay_piece (bodyRun.sl.r_37 c arg1 harg1 arg2 harg2 arg3 harg3 x0 x1 x2) 1 10 3328 rfl slices_S64x4096_o0_3328_S64x128 inb_S2x1x16x64x128_S1x1x1x64x128_1_0_10_0_0 x, ?_⟩
  refine List.forall_mem_cons.mpr ⟨fun x => lay_piece (bodyRun.sl.r_37 c arg1 harg1 arg2 harg2 arg3 harg3 x0 x1 x2) 1 9 3200 rfl slices_S64x4096_o0_3200_S64x128 inb_S2x1x16x64x128_S1x1x1x64x128_1_0_9_0_0 x, ?_⟩
  refine List.forall_mem_cons.mpr ⟨fun x => lay_piece (bodyRun.sl.r_37 c arg1 harg1 arg2 harg2 arg3 harg3 x0 x1 x2) 1 8 3072 rfl slices_S64x4096_o0_3072_S64x128 inb_S2x1x16x64x128_S1x1x1x64x128_1_0_8_0_0 x, ?_⟩
  refine List.forall_mem_cons.mpr ⟨fun x => lay_piece (bodyRun.sl.r_37 c arg1 harg1 arg2 harg2 arg3 harg3 x0 x1 x2) 1 7 2944 rfl slices_S64x4096_o0_2944_S64x128 inb_S2x1x16x64x128_S1x1x1x64x128_1_0_7_0_0 x, ?_⟩
  refine List.forall_mem_cons.mpr ⟨fun x => lay_piece (bodyRun.sl.r_37 c arg1 harg1 arg2 harg2 arg3 harg3 x0 x1 x2) 1 6 2816 rfl slices_S64x4096_o0_2816_S64x128 inb_S2x1x16x64x128_S1x1x1x64x128_1_0_6_0_0 x, ?_⟩
  refine List.forall_mem_cons.mpr ⟨fun x => lay_piece (bodyRun.sl.r_37 c arg1 harg1 arg2 harg2 arg3 harg3 x0 x1 x2) 1 5 2688 rfl slices_S64x4096_o0_2688_S64x128 inb_S2x1x16x64x128_S1x1x1x64x128_1_0_5_0_0 x, ?_⟩
  refine List.forall_mem_cons.mpr ⟨fun x => lay_piece (bodyRun.sl.r_37 c arg1 harg1 arg2 harg2 arg3 harg3 x0 x1 x2) 1 4 2560 rfl slices_S64x4096_o0_2560_S64x128 inb_S2x1x16x64x128_S1x1x1x64x128_1_0_4_0_0 x, ?_⟩
  refine List.forall_mem_cons.mpr ⟨fun x => lay_piece (bodyRun.sl.r_37 c arg1 harg1 arg2 harg2 arg3 harg3 x0 x1 x2) 1 3 2432 rfl slices_S64x4096_o0_2432_S64x128 inb_S2x1x16x64x128_S1x1x1x64x128_1_0_3_0_0 x, ?_⟩
  refine List.forall_mem_cons.mpr ⟨fun x => lay_piece (bodyRun.sl.r_37 c arg1 harg1 arg2 harg2 arg3 harg3 x0 x1 x2) 1 2 2304 rfl slices_S64x4096_o0_2304_S64x128 inb_S2x1x16x64x128_S1x1x1x64x128_1_0_2_0_0 x, ?_⟩
  refine List.forall_mem_cons.mpr ⟨fun x => lay_piece (bodyRun.sl.r_37 c arg1 harg1 arg2 harg2 arg3 harg3 x0 x1 x2) 1 1 2176 rfl slices_S64x4096_o0_2176_S64x128 inb_S2x1x16x64x128_S1x1x1x64x128_1_0_1_0_0 x, ?_⟩
  refine List.forall_mem_cons.mpr ⟨fun x => lay_piece (bodyRun.sl.r_37 c arg1 harg1 arg2 harg2 arg3 harg3 x0 x1 x2) 1 0 2048 rfl slices_S64x4096_o0_2048_S64x128 inb_S2x1x16x64x128_S1x1x1x64x128_1_0_0_0_0 x, ?_⟩
  refine List.forall_mem_cons.mpr ⟨fun x => lay_piece (bodyRun.sl.r_37 c arg1 harg1 arg2 harg2 arg3 harg3 x0 x1 x2) 0 15 1920 rfl slices_S64x4096_o0_1920_S64x128 inb_S2x1x16x64x128_S1x1x1x64x128_0_0_15_0_0 x, ?_⟩
  refine List.forall_mem_cons.mpr ⟨fun x => lay_piece (bodyRun.sl.r_37 c arg1 harg1 arg2 harg2 arg3 harg3 x0 x1 x2) 0 14 1792 rfl slices_S64x4096_o0_1792_S64x128 inb_S2x1x16x64x128_S1x1x1x64x128_0_0_14_0_0 x, ?_⟩
  refine List.forall_mem_cons.mpr ⟨fun x => lay_piece (bodyRun.sl.r_37 c arg1 harg1 arg2 harg2 arg3 harg3 x0 x1 x2) 0 13 1664 rfl slices_S64x4096_o0_1664_S64x128 inb_S2x1x16x64x128_S1x1x1x64x128_0_0_13_0_0 x, ?_⟩
  refine List.forall_mem_cons.mpr ⟨fun x => lay_piece (bodyRun.sl.r_37 c arg1 harg1 arg2 harg2 arg3 harg3 x0 x1 x2) 0 12 1536 rfl slices_S64x4096_o0_1536_S64x128 inb_S2x1x16x64x128_S1x1x1x64x128_0_0_12_0_0 x, ?_⟩
  refine List.forall_mem_cons.mpr ⟨fun x => lay_piece (bodyRun.sl.r_37 c arg1 harg1 arg2 harg2 arg3 harg3 x0 x1 x2) 0 11 1408 rfl slices_S64x4096_o0_1408_S64x128 inb_S2x1x16x64x128_S1x1x1x64x128_0_0_11_0_0 x, ?_⟩
  refine List.forall_mem_cons.mpr ⟨fun x => lay_piece (bodyRun.sl.r_37 c arg1 harg1 arg2 harg2 arg3 harg3 x0 x1 x2) 0 10 1280 rfl slices_S64x4096_o0_1280_S64x128 inb_S2x1x16x64x128_S1x1x1x64x128_0_0_10_0_0 x, ?_⟩
  refine List.forall_mem_cons.mpr ⟨fun x => lay_piece (bodyRun.sl.r_37 c arg1 harg1 arg2 harg2 arg3 harg3 x0 x1 x2) 0 9 1152 rfl slices_S64x4096_o0_1152_S64x128 inb_S2x1x16x64x128_S1x1x1x64x128_0_0_9_0_0 x, ?_⟩
  refine List.forall_mem_cons.mpr ⟨fun x => lay_piece (bodyRun.sl.r_37 c arg1 harg1 arg2 harg2 arg3 harg3 x0 x1 x2) 0 8 1024 rfl slices_S64x4096_o0_1024_S64x128 inb_S2x1x16x64x128_S1x1x1x64x128_0_0_8_0_0 x, ?_⟩
  refine List.forall_mem_cons.mpr ⟨fun x => lay_piece (bodyRun.sl.r_37 c arg1 harg1 arg2 harg2 arg3 harg3 x0 x1 x2) 0 7 896 rfl slices_S64x4096_o0_896_S64x128 inb_S2x1x16x64x128_S1x1x1x64x128_0_0_7_0_0 x, ?_⟩
  refine List.forall_mem_cons.mpr ⟨fun x => lay_piece (bodyRun.sl.r_37 c arg1 harg1 arg2 harg2 arg3 harg3 x0 x1 x2) 0 6 768 rfl slices_S64x4096_o0_768_S64x128 inb_S2x1x16x64x128_S1x1x1x64x128_0_0_6_0_0 x, ?_⟩
  refine List.forall_mem_cons.mpr ⟨fun x => lay_piece (bodyRun.sl.r_37 c arg1 harg1 arg2 harg2 arg3 harg3 x0 x1 x2) 0 5 640 rfl slices_S64x4096_o0_640_S64x128 inb_S2x1x16x64x128_S1x1x1x64x128_0_0_5_0_0 x, ?_⟩
  refine List.forall_mem_cons.mpr ⟨fun x => lay_piece (bodyRun.sl.r_37 c arg1 harg1 arg2 harg2 arg3 harg3 x0 x1 x2) 0 4 512 rfl slices_S64x4096_o0_512_S64x128 inb_S2x1x16x64x128_S1x1x1x64x128_0_0_4_0_0 x, ?_⟩
  refine List.forall_mem_cons.mpr ⟨fun x => lay_piece (bodyRun.sl.r_37 c arg1 harg1 arg2 harg2 arg3 harg3 x0 x1 x2) 0 3 384 rfl slices_S64x4096_o0_384_S64x128 inb_S2x1x16x64x128_S1x1x1x64x128_0_0_3_0_0 x, ?_⟩
  refine List.forall_mem_cons.mpr ⟨fun x => lay_piece (bodyRun.sl.r_37 c arg1 harg1 arg2 harg2 arg3 harg3 x0 x1 x2) 0 2 256 rfl slices_S64x4096_o0_256_S64x128 inb_S2x1x16x64x128_S1x1x1x64x128_0_0_2_0_0 x, ?_⟩
  refine List.forall_mem_cons.mpr ⟨fun x => lay_piece (bodyRun.sl.r_37 c arg1 harg1 arg2 harg2 arg3 harg3 x0 x1 x2) 0 1 128 rfl slices_S64x4096_o0_128_S64x128 inb_S2x1x16x64x128_S1x1x1x64x128_0_0_1_0_0 x, ?_⟩
  refine List.forall_mem_cons.mpr ⟨fun x => lay_piece (bodyRun.sl.r_37 c arg1 harg1 arg2 harg2 arg3 harg3 x0 x1 x2) 0 0 0 rfl slices_S64x4096_o0_0_S64x128 inb_S2x1x16x64x128_S1x1x1x64x128_0_0_0_0_0 x, ?_⟩
  exact List.forall_mem_nil _

/-- The piece written to the number output, read back, is the block's. -/
theorem out4_run (c : Dev nD) (i : grid0.Coords) (arg1 : Memref sig .tc .vmem S2x1x16x64x128 .f32) (harg1 : arg1.IsWhole) (arg2 : Memref sig .tc .vmem S1x512x64 .f32) (harg2 : arg2.IsWhole) (arg3 : Memref sig .tc .vmem S1x512x1 .f32) (harg3 : arg3.IsWhole) (arg4 : Memref sig .tc .vmem S2x1x16x64x128 .f32) (harg4 : arg4.IsWhole) (arg5 : Memref sig .tc .vmem S2x1x16x128 .i32) (harg5 : arg5.IsWhole) (arg6 : Memref sig .tc .vmem S2x1x16x128 .f32) (harg6 : arg6.IsWhole) (arg7 : Memref sig .tc .smem S1x1 .f32) (harg7 : arg7.IsWhole)
    (x0 : Vec F S2x1x16x64x128 .f32) (x1 : Vec F S1x512x64 .f32) (x2 : Vec F S1x512x1 .f32) (x6 : Vec F S1x1 .f32) (f) :
    arg5.view.read (Elt F) (arg5.view.writes (Elt F) f (bodyRun c i arg1 harg1 arg2 harg2 arg3 harg3 arg4 harg4 arg5 harg5 arg6 harg6 arg7 harg7 x0 x1 x2 x6).2.1) = out4 x0 x1 x2 := by
  rw [View.read_writes_eq_canon _ _ _ fun y => View.cover_of_tiledL (bodyRun c i arg1 harg1 arg2 harg2 arg3 harg3 arg4 harg4 arg5 harg5 arg6 harg6 arg7 harg7 x0 x1 x2 x6).2.1 S2x1x16x128.size (by sl_kernel_rfl) y]
  exact (View.canon_unit_zero (S := S2x1x16x128) (by decide) _ _).trans (congrArg k0_pay1 (picks_run c arg1 harg1 arg2 harg2 arg3 harg3 x0 x1 x2).2.1)

/-- The piece written to the error output, read back, is the block's. -/
theorem out5_run (c : Dev nD) (i : grid0.Coords) (arg1 : Memref sig .tc .vmem S2x1x16x64x128 .f32) (harg1 : arg1.IsWhole) (arg2 : Memref sig .tc .vmem S1x512x64 .f32) (harg2 : arg2.IsWhole) (arg3 : Memref sig .tc .vmem S1x512x1 .f32) (harg3 : arg3.IsWhole) (arg4 : Memref sig .tc .vmem S2x1x16x64x128 .f32) (harg4 : arg4.IsWhole) (arg5 : Memref sig .tc .vmem S2x1x16x128 .i32) (harg5 : arg5.IsWhole) (arg6 : Memref sig .tc .vmem S2x1x16x128 .f32) (harg6 : arg6.IsWhole) (arg7 : Memref sig .tc .smem S1x1 .f32) (harg7 : arg7.IsWhole)
    (x0 : Vec F S2x1x16x64x128 .f32) (x1 : Vec F S1x512x64 .f32) (x2 : Vec F S1x512x1 .f32) (x6 : Vec F S1x1 .f32) (f) :
    arg6.view.read (Elt F) (arg6.view.writes (Elt F) f (bodyRun c i arg1 harg1 arg2 harg2 arg3 harg3 arg4 harg4 arg5 harg5 arg6 harg6 arg7 harg7 x0 x1 x2 x6).2.2.1) = out5 x0 x1 x2 := by
  rw [View.read_writes_eq_canon _ _ _ fun y => View.cover_of_tiledL (bodyRun c i arg1 harg1 arg2 harg2 arg3 harg3 arg4 harg4 arg5 harg5 arg6 harg6 arg7 harg7 x0 x1 x2 x6).2.2.1 S2x1x16x128.size (by sl_kernel_rfl) y]
  exact (View.canon_unit_zero (S := S2x1x16x128) (by decide) _ _).trans (congrArg k0_pay3 (picks_run c arg1 harg1 arg2 harg2 arg3 harg3 x0 x1 x2).1)

/-- The total the body loads is the buffer's only entry. -/
theorem total_load (c : Dev nD) (arg7 : Memref sig .tc .smem S1x1 .f32) (harg7 : arg7.IsWhole) (x6 : Vec F S1x1 .f32) :
    bodyRun.sl.r_38 c arg7 harg7 x6 = x6 (ix2 0 0) := by
  unfold bodyRun.sl.r_38
  rw [harg7.readAt_unread]
  exact congrArg x6 (funext fun a => match a with
    | ⟨0, _⟩ => rfl
    | ⟨1, _⟩ => rfl)

/-- The piece written to the running total, read back, is the total. -/
theorem out6_run (c : Dev nD) (i : grid0.Coords) (arg1 : Memref sig .tc .vmem S2x1x16x64x128 .f32) (harg1 : arg1.IsWhole) (arg2 : Memref sig .tc .vmem S1x512x64 .f32) (harg2 : arg2.IsWhole) (arg3 : Memref sig .tc .vmem S1x512x1 .f32) (harg3 : arg3.IsWhole) (arg4 : Memref sig .tc .vmem S2x1x16x64x128 .f32) (harg4 : arg4.IsWhole) (arg5 : Memref sig .tc .vmem S2x1x16x128 .i32) (harg5 : arg5.IsWhole) (arg6 : Memref sig .tc .vmem S2x1x16x128 .f32) (harg6 : arg6.IsWhole) (arg7 : Memref sig .tc .smem S1x1 .f32) (harg7 : arg7.IsWhole)
    (x0 : Vec F S2x1x16x64x128 .f32) (x1 : Vec F S1x512x64 .f32) (x2 : Vec F S1x512x1 .f32) (x6 : Vec F S1x1 .f32) (f) :
    arg7.view.read (Elt F) (arg7.view.writes (Elt F) f (bodyRun c i arg1 harg1 arg2 harg2 arg3 harg3 arg4 harg4 arg5 harg5 arg6 harg6 arg7 harg7 x0 x1 x2 x6).2.2.2.1) = out6 i x0 x1 x2 x6 := by
  rw [View.read_writes_eq_canon _ _ _ fun y => View.cover_of_tiledL (bodyRun c i arg1 harg1 arg2 harg2 arg3 harg3 arg4 harg4 arg5 harg5 arg6 harg6 arg7 harg7 x0 x1 x2 x6).2.2.2.1 S1x1.size (by sl_kernel_rfl) y]
  refine (View.canon_unit_zero (S := S1x1) (by decide) _ _).trans (funext fun _ => ?_)
  show k0_pay4 _ _ _ = k0_pay4 _ _ _
  rw [(picks_run c arg1 harg1 arg2 harg2 arg3 harg3 x0 x1 x2).1, total_load]

end Cert.KernelIdeal.Hand

end
-- ==== Proof.Launch.lean ====
/- The idealized kernel's launch: what every staging buffer holds after every grid point, and the final state. -/
module

public import proofs.«01_k».proof.Proof.Block
public import Idealize.ShloMosaic.Lib.Pipeline.FrameSuffix
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Grid point `t` is head `t`. -/
theorem head_val (t : Fin cfg0.N) : (grid0.coords t 0).val = t.val := by
  have hN : t.val < 8 := lt_of_lt_of_eq t.isLt (show cfg0.N = 8 from N_0)
  have h : (grid0.coords t 0).val = t.val / 1 % 8 := Pipeline.Grid.coords_val t 0 (by decide) rfl
  omega

/-- At the first head the running total starts from zero, whatever its buffer held. -/
theorem out6_first (i : grid0.Coords) (hi : (i 0).val = 0) (x0 : Vec F S2x1x16x64x128 .f32) (x1 : Vec F S1x512x64 .f32) (x2 : Vec F S1x512x1 .f32) (x6 x6' : Vec F S1x1 .f32) :
    out6 i x0 x1 x2 x6 = out6 i x0 x1 x2 x6' := by
  funext y
  unfold out6
  rw [hi]
  rfl

/-- The running total after point `n`. -/
def totalAt (c : Dev nD) : (n : ℕ) → n < cfg0.N → Vec F S1x1 .f32
  | 0, h => out6 (grid0.coords ⟨0, h⟩) (iblk m c 0 ⟨0, h⟩) (iblk m c 1 ⟨0, h⟩) (iblk m c 2 ⟨0, h⟩) (fun _ => Scalar.ofBits .f32 0x00000000#32)
  | n + 1, h => out6 (grid0.coords ⟨n + 1, h⟩) (iblk m c 0 ⟨n + 1, h⟩) (iblk m c 1 ⟨n + 1, h⟩) (iblk m c 2 ⟨n + 1, h⟩) (totalAt c n (Nat.lt_of_succ_lt h))

/-- The pipeline's proof data on one core: arrays as the region finds them, and after every point the inputs' blocks
    kept and the outputs' as the block functions say. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 (iblk m c 0 t) (iblk m c 1 t) (iblk m c 2 t)
    | ⟨4, _⟩ => out4 (iblk m c 0 t) (iblk m c 1 t) (iblk m c 2 t)
    | ⟨5, _⟩ => out5 (iblk m c 0 t) (iblk m c 1 t) (iblk m c 2 t)
    | ⟨6, _⟩ => totalAt m c t.val t.isLt
  Φ _ := Pipeline.ΦA spec0 c
  q _ := fullShare
  owed _ := 0

/-- The data's arrays are those the region finds. -/
theorem arrays_eq (c : Dev nD) (w : Fin cfg0.W) : (dats m 0 c).A w = V m c (Pipeline.arrRef spec0 w) := by
  dsimp only [dats]

/-- Each window's contents after a point, by window. -/
theorem left0 (c : Dev nD) (t : Fin cfg0.N) : (dats m 0 c).after 0 t = iblk m c 0 t := by dsimp only [dats]
/-- Window 1 after a point. -/
theorem left1 (c : Dev nD) (t : Fin cfg0.N) : (dats m 0 c).after 1 t = iblk m c 1 t := by dsimp only [dats]
/-- Window 2 after a point. -/
theorem left2 (c : Dev nD) (t : Fin cfg0.N) : (dats m 0 c).after 2 t = iblk m c 2 t := by dsimp only [dats]
/-- Window 3 after a point. -/
theorem left3 (c : Dev nD) (t : Fin cfg0.N) : (dats m 0 c).after 3 t = out3 (iblk m c 0 t) (iblk m c 1 t) (iblk m c 2 t) := by dsimp only [dats]
/-- Window 4 after a point. -/
theorem left4 (c : Dev nD) (t : Fin cfg0.N) : (dats m 0 c).after 4 t = out4 (iblk m c 0 t) (iblk m c 1 t) (iblk m c 2 t) := by dsimp only [dats]
/-- Window 5 after a point. -/
theorem left5 (c : Dev nD) (t : Fin cfg0.N) : (dats m 0 c).after 5 t = out5 (iblk m c 0 t) (iblk m c 1 t) (iblk m c 2 t) := by dsimp only [dats]
/-- Window 6 after a point. -/
theorem left6 (c : Dev nD) (t : Fin cfg0.N) : (dats m 0 c).after 6 t = totalAt m c t.val t.isLt := by dsimp only [dats]

/-- Each input's staging buffer holds its block when the body starts. -/
theorem found0 (c : Dev nD) (t : Fin cfg0.N) (d) : (dats m 0 c).before 0 t d = iblk m c 0 t := before0_0_of m (dats m 0 c) (arrays_eq m c 0) (left0 m c) t d
/-- The second input's buffer holds its block when the body starts. -/
theorem found1 (c : Dev nD) (t : Fin cfg0.N) (d) : (dats m 0 c).before 1 t d = iblk m c 1 t := before0_1_of m (dats m 0 c) (arrays_eq m c 1) (left1 m c) t d
/-- The third input's buffer holds its block when the body starts. -/
theorem found2 (c : Dev nD) (t : Fin cfg0.N) (d) : (dats m 0 c).before 2 t d = iblk m c 2 t := before0_2_of m (dats m 0 c) (arrays_eq m c 2) (left2 m c) t d

/-- From whatever the total's buffer holds when the body starts, the body leaves the running total. -/
theorem total_step (c : Dev nD) (t : Fin cfg0.N) (d) :
    out6 (grid0.coords t) (iblk m c 0 t) (iblk m c 1 t) (iblk m c 2 t) ((dats m 0 c).before 6 t d) = totalAt m c t.val t.isLt := by
  have hN : t.val < 8 := lt_of_lt_of_eq t.isLt (show cfg0.N = 8 from N_0)
  obtain ⟨n, hn⟩ := t
  cases n with
  | zero => exact out6_first _ (head_val ⟨0, hn⟩) _ _ _ _ _
  | succ n =>
    rw [Dat.before_out_kept _ 6 rfl ⟨n + 1, hn⟩ (by dsimp only; omega) (Bool.eq_false_iff.mpr fun h => by have := (flush0_6 _).mp h; dsimp only at this hN; omega)
      (fun _ => rfl) (fun _ _ => rfl)]
    rfl

/-- Window 0's staging memref at a point. -/
abbrev stg0 (t : Fin cfg0.N) : Memref sig .tc .vmem S2x1x16x64x128 .f32 := win0_0.stage (cfg0.slots t 0)
/-- Window 1's staging memref at a point. -/
abbrev stg1 (t : Fin cfg0.N) : Memref sig .tc .vmem S1x512x64 .f32 := win0_1.stage (cfg0.slots t 1)
/-- Window 2's staging memref at a point. -/
abbrev stg2 (t : Fin cfg0.N) : Memref sig .tc .vmem S1x512x1 .f32 := win0_2.stage (cfg0.slots t 2)
/-- Window 3's staging memref at a point. -/
abbrev stg3 (t : Fin cfg0.N) : Memref sig .tc .vmem S2x1x16x64x128 .f32 := win0_3.stage (cfg0.slots t 3)
/-- Window 4's staging memref at a point. -/
abbrev stg4 (t : Fin cfg0.N) : Memref sig .tc .vmem S2x1x16x128 .i32 := win0_4.stage (cfg0.slots t 4)
/-- Window 5's staging memref at a point. -/
abbrev stg5 (t : Fin cfg0.N) : Memref sig .tc .vmem S2x1x16x128 .f32 := win0_5.stage (cfg0.slots t 5)
/-- Window 6's staging memref at a point. -/
abbrev stg6 (t : Fin cfg0.N) : Memref sig .tc .smem S1x1 .f32 := win0_6.stage (cfg0.slots t 6)

/-- What the body is called with at a point. -/
def given (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d)))

/-- What the body returns at a point. -/
def returned (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t))

set_option maxHeartbeats 800000 in
/-- The body at any point turns what it is given into what it returns. -/
theorem body_sound (c : Dev nD) (t : Fin cfg0.N) :
    given m c t ⊢ wp frame (wpE (defs₀ (F := F)) Variants.none c none) Set.univ (bodyAt0 t) (fun _ => returned m c t) := by
  unfold given returned bodyAt0
  simp only [found0, found1, found2]
  rw [show (dats m 0 c).Φ t.succ = (dats m 0 c).Φ t.castSucc from rfl,
    show (dats m 0 c).owesAt () t.succ = (dats m 0 c).owesAt () t.castSucc from rfl,
    left0, left1, left2, left3, left4, left5, left6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((bodyRun c (grid0.coords t) _ _ _ _ _ _ _ _ _ _ _ _ _ _ (iblk m c 0 t) (iblk m c 1 t) (iblk m c 2 t) ((dats m 0 c).before 6 t d6)).2.2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexact H6
  iintro ⟨H0, H1, H2, ⟨%e3, H3⟩, ⟨%e4, H4⟩, ⟨%e5, H5⟩, ⟨%e6, H6⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact out3_run ..
  isplitl [H4]
  · unfold owns; iexists _; isplitr
    swap; · iexact H4
    ipureintro; exact out4_run ..
  isplitl [H5]
  · unfold owns; iexists _; isplitr
    swap; · iexact H5
    ipureintro; exact out5_run ..
  unfold owns; iexists _; isplitr
  swap; · iexact H6
  ipureintro; exact (out6_run ..).trans (total_step m c t d6)

/-- The body table's row at a point is the body there. -/
theorem row_eq (t : Fin cfg0.N) :
    defs₀ (F := F) .tc cfg0.body (cfg0.bodyArgs t (cfg0.slots t)) = bodyAt0 t := by
  unfold defs₀; rw [Defs.onTc_tc]

/-- The pipeline's obligation on the body, at every point. -/
theorem obligation (c : Dev nD) : BodyObligation (dats (F := F) m 0 c) (defs₀ (F := F)) Variants.none () Set.univ := fun t => by
  rw [bigSep_W0, bigSep_W0, row_eq]
  exact triple_restated (body_sound m c t) rfl .rfl fun _ => .rfl

set_option backward.isDefEq.respectTransparency.types false in
set_option maxHeartbeats 800000 in
/-- Every fair run of the program ends, with the pipeline's arrays at what the data say, every other buffer as the
    closing host operations leave it, and every counter at zero. -/
theorem launch_all : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := arrays_eq m) (hΦ := fun _ _ => rfl)

/-- The same without the counters. -/
theorem launch_post : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (launch_all m ρ)

/-- The program ends with its arguments unchanged and every counter at zero. -/
theorem frame_kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (arrays_eq m) (launch_post m ρ)) ((θ_run defs _ _).mono (fun _ h => h.2) (launch_all m ρ))

end Cert.KernelIdeal.Hand

end
-- ==== Proof.Printed.lean ====
/- The kernel as printed ends as its idealization does: the two are one program, so what is shown of its run for every
   reading of the floats holds of it at the machine's words. -/
module

public import proofs.«01_k».proof.Proof.Gen.Kernel
public import proofs.«01_k».proof.Proof.Launch

@[expose] public section

set_option maxRecDepth 16384

noncomputable section

namespace Cert.Printed

open Idealize.ShloMosaic Idealize.ShloMosaic.TcCoe Idealize.SL.Sem

variable {F : FTy → Type} [FloatOps F]

/-- The two programs have the same buffers. -/
theorem sig_same : Cert.Kernel.sig = Cert.KernelIdeal.sig := rfl

/-- Programs that begin alike and go on alike are one program. -/
theorem step_same.{u, v} {M : Type u → Type v} [Bind M] {A B : Type u} {x y : M A} {f g : A → M B} (h : x = y) (k : ∀ a, f a = g a) : bind x f = bind y g :=
  h ▸ congrArg (bind x) (funext k)

/-- Window 1 of the kernel's body is the same in both. -/
theorem part1_same : Cert.Kernel.k0_part1 (F := F) = Cert.KernelIdeal.k0_part1 (F := F) := rfl

/-- Window 2 of the kernel's body is the same in both. -/
theorem part2_same : Cert.Kernel.k0_part2 (F := F) = Cert.KernelIdeal.k0_part2 (F := F) := rfl

/-- Window 3 of the kernel's body is the same in both. -/
theorem part3_same : Cert.Kernel.k0_part3 (F := F) = Cert.KernelIdeal.k0_part3 (F := F) := rfl

/-- Window 4 of the kernel's body is the same in both. -/
theorem part4_same : Cert.Kernel.k0_part4 (F := F) = Cert.KernelIdeal.k0_part4 (F := F) := rfl

/-- Window 5 of the kernel's body is the same in both. -/
theorem part5_same : Cert.Kernel.k0_part5 (F := F) = Cert.KernelIdeal.k0_part5 (F := F) := rfl

/-- Window 6 of the kernel's body is the same in both. -/
theorem part6_same : Cert.Kernel.k0_part6 (F := F) = Cert.KernelIdeal.k0_part6 (F := F) := rfl

/-- Window 7 of the kernel's body is the same in both. -/
theorem part7_same : Cert.Kernel.k0_part7 (F := F) = Cert.KernelIdeal.k0_part7 (F := F) := rfl

/-- Window 8 of the kernel's body is the same in both. -/
theorem part8_same : Cert.Kernel.k0_part8 (F := F) = Cert.KernelIdeal.k0_part8 (F := F) := rfl

/-- Window 9 of the kernel's body is the same in both. -/
theorem part9_same : Cert.Kernel.k0_part9 (F := F) = Cert.KernelIdeal.k0_part9 (F := F) := rfl

/-- Window 10 of the kernel's body is the same in both. -/
theorem part10_same : Cert.Kernel.k0_part10 (F := F) = Cert.KernelIdeal.k0_part10 (F := F) := rfl

set_option maxHeartbeats 4000000 in
/-- They have the same body. -/
theorem body_same : Cert.Kernel.cc0__vq_body (F := F) = Cert.KernelIdeal.cc0__vq_body (F := F) := by
  funext i a1 h1 a2 h2 a3 h3 a4 h4 a5 h5 a6 h6 a7 h7
  unfold Cert.Kernel.cc0__vq_body Cert.KernelIdeal.cc0__vq_body
  refine step_same ?_ fun p => ?_
  · rw [part1_same]
  obtain ⟨_, _, _, _, _, _, _, _, _⟩ := p
  refine step_same ?_ fun p => ?_
  · rw [part2_same]
  obtain ⟨_, _, _, _, _, _, _, _, _⟩ := p
  refine step_same ?_ fun p => ?_
  · rw [part3_same]
  obtain ⟨_, _, _, _, _, _, _, _, _⟩ := p
  refine step_same ?_ fun p => ?_
  · rw [part4_same]
  obtain ⟨_, _, _, _, _, _, _, _, _⟩ := p
  refine step_same ?_ fun p => ?_
  · rw [part5_same]
  obtain ⟨_, _, _⟩ := p
  refine step_same ?_ fun _ => ?_
  · rw [part6_same]
  refine step_same ?_ fun _ => ?_
  · rw [part7_same]
  refine step_same ?_ fun _ => ?_
  · rw [part8_same]
  refine step_same ?_ fun _ => ?_
  · rw [part9_same]
  refine step_same ?_ fun _ => ?_
  · rw [part10_same]
  rfl

set_option maxHeartbeats 4000000 in
/-- They have the same kernel function. -/
theorem body_defs_same : Cert.Kernel.defs₀ (F := F) = Cert.KernelIdeal.defs₀ (F := F) := by
  unfold Cert.Kernel.defs₀ Cert.KernelIdeal.defs₀
  rw [body_same]
  refine congrArg Defs.onTc (funext fun l => funext fun x => ?_)
  match l, x with
  | 0, (t, s) => rfl

/-- They have the same definitions. -/
theorem defs_same : Cert.Kernel.defs (F := F) = Cert.KernelIdeal.defs (F := F) := by
  unfold Cert.Kernel.defs Cert.KernelIdeal.defs
  rw [body_defs_same]
  rfl

/-- They have the same entry. -/
theorem main_same : Cert.Kernel.main (F := F) = Cert.KernelIdeal.main (F := F) := rfl

/-- The kernel ends with its arguments unchanged and every counter at zero. -/
theorem frame_kept (m : (ℓ : Loc Cert.Kernel.nD Cert.Kernel.τ Cert.Kernel.sig) → Buf (Elt F) ℓ) (g : Dev Cert.Kernel.nD → PrngReg) :
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) :=
  by
  rw [defs_same, main_same]
  exact Cert.KernelIdeal.Hand.frame_kept (F := F) m g

end Cert.Printed

end
-- ==== Proof.RefVals.lean ====
/- What each stretch of the reference computes, as functions of the arrays it reads. -/
module

public import proofs.«01_k».proof.Proof.Gen.ReferenceIdeal

@[expose] public section

set_option maxRecDepth 16384

noncomputable section

namespace Cert.ReferenceIdeal.Hand

open Cert.ReferenceIdeal Cert.ReferenceIdeal.Gen Idealize.ShloMosaic Idealize.ShloMosaic.TcCoe

variable {F : FTy → Type} [FloatOps F]

/-- The codewords: the sums over the counts, each count at least 0.01. -/
def codes (a1 : FVec F S8x512x64 .f32) (a2 : FVec F S8x512 .f32) : FVec F S8x512x64 .f32 :=
  Host.divf a1 (broadcastInDim S8x512x64 ![0, 1, 2] bcast_S8x512x1_S8x512x64_0_1_2
    (maximumf (broadcastInDim S8x512x1 ![] bcast_S_S8x512x1 (id (constant S_ .f32 0x3C23D70A#32)))
      (broadcastInDim S8x512x1 ![0, 1] bcast_S8x512_S8x512x1_0_1 a2)))

/-- The squared length of every vector. -/
def vecSq (a0 : FVec F S2x8x16x128x64 .f32) : FVec F S2x8x16x128 .f32 :=
  Host.reduceAdd (mulf a0 a0) (constant S_ .f32 0x00000000#32) reducesTo_S2x8x16x128x64_S2x8x16x128_d4 h_S_

/-- The squared length of every codeword. -/
def codeSq (cw : FVec F S8x512x64 .f32) : FVec F S8x512 .f32 :=
  Host.reduceAdd (mulf cw cw) (constant S_ .f32 0x00000000#32) reducesTo_S8x512x64_S8x512_d2 h_S_

/-- The product of every vector with every codeword of its head. -/
def cross (a0 : FVec F S2x8x16x128x64 .f32) (cw : FVec F S8x512x64 .f32) : FVec F S8x512x2x16x128 .f32 :=
  Host.dotGeneral dot_S8x512x64_S2x8x16x128x64_S8x512x2x16x128_2_4_1_023_0_1 none cw a0

/-- The squared distance of every vector to every codeword of its head. -/
def diffs (a0 : FVec F S2x8x16x128x64 .f32) (cw : FVec F S8x512x64 .f32) : FVec F S2x8x16x128x512 .f32 :=
  addf
    (subf
      (broadcastInDim S2x8x16x128x512 ![0, 1, 2, 3, 4] bcast_S2x8x16x128x1_S2x8x16x128x512_0_1_2_3_4
        (broadcastInDim S2x8x16x128x1 ![0, 1, 2, 3] bcast_S2x8x16x128_S2x8x16x128x1_0_1_2_3 (vecSq a0)))
      (mulf (broadcastInDim S2x8x16x128x512 ![] bcast_S_S2x8x16x128x512 (constant S_ .f32 0x40000000#32))
        (transpose S2x8x16x128x512 [2, 0, 3, 4, 1] (cross a0 cw)
          transposes_S8x512x2x16x128_S2x8x16x128x512_2_0_3_4_1)))
    (broadcastInDim S2x8x16x128x512 ![0, 1, 2, 3, 4] bcast_S1x8x1x1x512_S2x8x16x128x512_0_1_2_3_4
      (broadcastInDim S1x8x1x1x512 ![1, 4] bcast_S8x512_S1x8x1x1x512_1_4 (codeSq cw)))

/-- The position an arg-min over some axes finds, at one index of the result. -/
def posAt {s t u : Shape} {axes : List (Fin s.rank)} {β : Type} (f : F .f32 × β → F .f32 × β → F .f32 × β)
    (x : FVec F s .f32) (y : s.Idx → β) (ix : FVec F u .f32) (iy : u.Idx → β) (h : s.ReducesTo axes t) (hu : 0 < u.numel)
    (j : t.Idx) : β :=
  (Host.argReduce (F := F) (φ := .f32) f x y ix iy h hu j).2

/-- The position that a reduction of pairs leaves, at any shape. -/
theorem posAt_eq {s t u : Shape} {axes : List (Fin s.rank)} {β : Type} (f : F .f32 × β → F .f32 × β → F .f32 × β)
    (x : FVec F s .f32) (y : s.Idx → β) (ix : FVec F u .f32) (iy : u.Idx → β) (h : s.ReducesTo axes t) (hu : 0 < u.numel)
    (j : t.Idx) : (Host.argReduce (F := F) (φ := .f32) f x y ix iy h hu j).2 = posAt f x y ix iy h hu j := rfl

/-- The position of the least distance, for every vector. -/
def zOf (d : FVec F S2x8x16x128x512 .f32) : Vec F S2x8x16x128 .i32 := fun j =>
  posAt (F := F) reducer_argmin_f32_i32 d (iotaInDim S2x8x16x128x512 32 4) (constant S_ .f32 0x7F800000#32)
    (constantI S_ 32 0#32) reducesTo_S2x8x16x128x512_S2x8x16x128_d4 h_S_ j

/-- The least distance, negative ones counted as zero. -/
def errOf (d : FVec F S2x8x16x128x512 .f32) : FVec F S2x8x16x128 .f32 :=
  maximumf (Host.reduce FloatOps.minimumf d (constant S_ .f32 0x7F800000#32)
      reducesTo_S2x8x16x128x512_S2x8x16x128_d4 h_S_)
    (broadcastInDim S2x8x16x128 ![] bcast_S_S2x8x16x128 (constant S_ .f32 0x00000000#32))

/-- The positions as given, a negative one counted from the end. -/
def wrapped (z : Vec F S2x8x16x128 .i32) : Vec F S2x8x16x128x1 .i32 :=
  select (cmpi .slt (broadcastInDim S2x8x16x128x1 ![0, 1, 2, 3] bcast_S2x8x16x128_S2x8x16x128x1_0_1_2_3 z)
      (broadcastInDim S2x8x16x128x1 ![] bcast_S_S2x8x16x128x1 (constantI S_ 32 0#32)))
    (addi (broadcastInDim S2x8x16x128x1 ![0, 1, 2, 3] bcast_S2x8x16x128_S2x8x16x128x1_0_1_2_3 z)
      (broadcastInDim S2x8x16x128x1 ![] bcast_S_S2x8x16x128x1 (constantI S_ 32 512#32)))
    (broadcastInDim S2x8x16x128x1 ![0, 1, 2, 3] bcast_S2x8x16x128_S2x8x16x128x1_0_1_2_3 z)

/-- Whether a position names a codeword. -/
def inside (w : Vec F S2x8x16x128x1 .i32) : Vec F S2x8x16x128 .i1 :=
  Host.reduce IntOp.andi
    (andi (cmpi .sge w (broadcastInDim S2x8x16x128x1 ![] bcast_S_S2x8x16x128x1 (constantI S_ 32 0#32)))
      (cmpi .sle w (broadcastInDim S2x8x16x128x1 ![0, 1, 2, 3, 4] bcast_S1x1x1x1x1_S2x8x16x128x1_0_1_2_3_4
        (broadcastInDim S1x1x1x1x1 ![4] bcast_S1_S1x1x1x1x1_4 (constantI S1 32 511#32)))))
    (constantI S_ 1 1#1) reducesTo_S2x8x16x128x1_S2x8x16x128_d4 h_S_

/-- The codewords at given positions, one per vector. -/
def takenOf (cw : FVec F S8x512x64 .f32) (w : Vec F S2x8x16x128x1 .i32) : FVec F S2x8x16x128x64 .f32 :=
  select (broadcastInDim S2x8x16x128x64 ![0, 1, 2, 3] bcast_S2x8x16x128_S2x8x16x128x64_0_1_2_3 (inside (F := F) w))
    (Host.gather gather_S8x512x64_S2x8x16x128x1_S2x8x16x128x64_4_1_0_1_1_4_1164
      (shapeCast S8x512x64 (broadcastInDim S1x8x1x512x64 ![1, 3, 4] bcast_S8x512x64_S1x8x1x512x64_1_3_4 cw)
        shapeCasts_S1x8x1x512x64_S8x512x64) w)
    (broadcastInDim S2x8x16x128x64 ![] bcast_S_S2x8x16x128x64 (constant S_ .f32 0x7FC00000#32))

/-- The quantised vectors, with the vector's difference from itself added. -/
def hatOf (a0 taken : FVec F S2x8x16x128x64 .f32) : FVec F S2x8x16x128x64 .f32 :=
  addf taken (subf a0 a0)

/-- The errors summed over the heads. -/
def overHeads (e : FVec F S2x8x16x128 .f32) : FVec F S2x16x128 .f32 :=
  Host.reduceAdd e (constant S_ .f32 0x00000000#32) reducesTo_S2x8x16x128_S2x16x128_d1 h_S_

/-- The mean, over the vectors of one head, of the errors summed over the heads. -/
def commitOf (e : FVec F S2x8x16x128 .f32) : FVec F S_ .f32 :=
  Host.divf (Host.reduceAdd (overHeads e) (constant S_ .f32 0x00000000#32) reducesTo_S2x16x128_S_d0_1_2 h_S_)
    (constant S_ .f32 0x45800000#32)

/-- Which codeword each vector takes, as ones and zeros. -/
def hotOf (z : Vec F S2x8x16x128 .i32) : FVec F S2x8x16x128x512 .f32 :=
  uitofp .f32 (cmpi .eq
    (broadcastInDim S2x8x16x128x512 ![0, 1, 2, 3, 4] bcast_S2x8x16x128x1_S2x8x16x128x512_0_1_2_3_4
      (broadcastInDim S2x8x16x128x1 ![0, 1, 2, 3] bcast_S2x8x16x128_S2x8x16x128x1_0_1_2_3 z))
    (broadcastInDim S2x8x16x128x512 ![0, 1, 2, 3, 4] bcast_S1x1x1x1x512_S2x8x16x128x512_0_1_2_3_4
      (iotaInDim S1x1x1x1x512 32 4)))

/-- The moving average of the codeword sums. -/
def sumAvg (a0 : FVec F S2x8x16x128x64 .f32) (a1 : FVec F S8x512x64 .f32) (hot : FVec F S2x8x16x128x512 .f32) :
    FVec F S8x512x64 .f32 :=
  addf
    (mulf (broadcastInDim S8x512x64 ![] bcast_S_S8x512x64 (constant S_ .f32 0x3C23D70A#32))
      (mulf (broadcastInDim S8x512x64 ![] bcast_S_S8x512x64 (constant S_ .f32 0x41800000#32))
        (Host.dotGeneral dot_S2x8x16x128x512_S2x8x16x128x64_S8x512x64_032_032_4_4_1_1 none hot a0)))
    (mulf (broadcastInDim S8x512x64 ![] bcast_S_S8x512x64 (constant S_ .f32 0x3F7D70A4#32)) a1)

/-- The moving average of the codeword counts. -/
def cntAvg (a2 : FVec F S8x512 .f32) (hot : FVec F S2x8x16x128x512 .f32) : FVec F S8x512 .f32 :=
  addf
    (mulf (broadcastInDim S8x512 ![] bcast_S_S8x512 (constant S_ .f32 0x3C23D70A#32))
      (mulf (broadcastInDim S8x512 ![] bcast_S_S8x512 (constant S_ .f32 0x41800000#32))
        (Host.reduceAdd hot (constant S_ .f32 0x00000000#32) reducesTo_S2x8x16x128x512_S8x512_d0_3_2 h_S_)))
    (mulf (broadcastInDim S8x512 ![] bcast_S_S8x512 (constant S_ .f32 0x3F7D70A4#32)) a2)

/-- The codebook loss from the two arrays and their averages. -/
def lossOf (a1 s : FVec F S8x512x64 .f32) (a2 n : FVec F S8x512 .f32) : FVec F S_ .f32 :=
  addf
    (Host.reduceAdd (mulf (subf a2 n) (subf a2 a2)) (constant S_ .f32 0x00000000#32) reducesTo_S8x512_S_d0_1 h_S_)
    (Host.reduceAdd (mulf (subf a1 s) (subf a1 a1)) (constant S_ .f32 0x00000000#32) reducesTo_S8x512x64_S_d0_1_2 h_S_)

end Cert.ReferenceIdeal.Hand
-- ==== Proof.Least.lean ====
/- The first of 512 values that is least, and the three ways the two programs find it. -/
module

public import proofs.«01_k».proof.Proof.RefVals
public import Idealize.ShloMosaic.PureOps.Ideal.Laws
public import Idealize.ShloMosaic.PureOps.Reduce
public import Idealize.ShloMosaic.Lib.IdealHost

@[expose] public section

set_option maxRecDepth 16384

noncomputable section

namespace Cert.Least

open Idealize.ShloMosaic

/-- `p` is the first position at which `f` is least. -/
def IsFirst (f : Fin 512 → EReal) (p : Fin 512) : Prop := (∀ k, f p ≤ f k) ∧ ∀ k, f k ≤ f p → p ≤ k

/-- A first least position exists. -/
theorem exists_first (f : Fin 512 → EReal) : ∃ p, IsFirst f p := by
  classical
  obtain ⟨m, _, hm⟩ := Finset.exists_min_image Finset.univ f ⟨0, Finset.mem_univ _⟩
  have hne : (Finset.univ.filter fun k => f k ≤ f m).Nonempty := ⟨m, by simp⟩
  refine ⟨(Finset.univ.filter fun k => f k ≤ f m).min' hne, ?_⟩
  have h := Finset.min'_mem _ hne
  rw [Finset.mem_filter] at h
  refine ⟨fun k => h.2.trans (hm k (Finset.mem_univ _)), fun k hk => ?_⟩
  exact Finset.min'_le (Finset.univ.filter fun k => f k ≤ f m) k (by
    rw [Finset.mem_filter]; exact ⟨Finset.mem_univ k, hk.trans h.2⟩)

/-- The first position at which `f` is least. -/
def first (f : Fin 512 → EReal) : Fin 512 := (exists_first f).choose

/-- The first least position is one. -/
theorem first_spec (f : Fin 512 → EReal) : IsFirst f (first f) := (exists_first f).choose_spec

/-- There is only one first least position. -/
theorem first_unique (f : Fin 512 → EReal) {p : Fin 512} (h : IsFirst f p) : first f = p :=
  le_antisymm ((first_spec f).2 p (h.1 _)) (h.2 _ ((first_spec f).1 p))

/-- A fold of minima from the top is the value at a least position. -/
theorem fold_min_eq (f : Fin 512 → EReal) (p : Fin 512) (h : ∀ k, f p ≤ f k) :
    (Finset.univ : Finset (Fin 512)).fold min ⊤ f = f p := by
  apply le_antisymm
  · rw [Finset.fold_min_le]; exact Or.inr ⟨p, Finset.mem_univ _, le_rfl⟩
  · rw [Finset.le_fold_min]; exact ⟨le_top, fun k _ => h k⟩

/-- A fold of minima from the top is the value at the first least position. -/
theorem fold_min_first (f : Fin 512 → EReal) :
    (Finset.univ : Finset (Fin 512)).fold min ⊤ f = f (first f) := fold_min_eq f _ (first_spec f).1

/-- The least position number among those where `f` is least, the others counted as 512, is the first. -/
theorem fold_pick (f : Fin 512 → EReal) :
    (Finset.univ : Finset (Fin 512)).fold min ⊤
      (fun k => if f k = f (first f) then (((k.val : ℕ) : ℝ) : EReal) else ((512 : ℝ) : EReal))
      = (((first f).val : ℝ) : EReal) := by
  rw [fold_min_eq _ (first f)]
  · rw [if_pos rfl]
  · intro k
    rw [if_pos rfl]
    split_ifs with h
    · have := (first_spec f).2 k h.le
      exact_mod_cast Fin.le_def.mp this
    · exact_mod_cast (first f).isLt.le

/-! ## The reference's fold over pairs -/

/-- One pair comes no later than another: a smaller value, or the same value at a position no greater. -/
def NoLater (a b : EReal × BitVec 32) : Prop := a.1 < b.1 ∨ (a.1 = b.1 ∧ a.2.toInt ≤ b.2.toInt)

/-- The order of value and position is transitive. -/
theorem NoLater.trans {a b c : EReal × BitVec 32} (h : NoLater a b) (h' : NoLater b c) : NoLater a c := by
  rcases h with h | ⟨h, k⟩ <;> rcases h' with h' | ⟨h', k'⟩
  · exact Or.inl (h.trans h')
  · exact Or.inl (h' ▸ h)
  · exact Or.inl (h ▸ h')
  · exact Or.inr ⟨h.trans h', k.trans k'⟩

open Cert.ReferenceIdeal in
/-- The reducer returns one of its two pairs, and that one comes no later than either. -/
theorem reducer_spec (a b : EReal × BitVec 32) :
    (reducer_argmin_f32_i32 (F := Ideal) a b = a ∨ reducer_argmin_f32_i32 (F := Ideal) a b = b)
      ∧ NoLater (reducer_argmin_f32_i32 (F := Ideal) a b) a ∧ NoLater (reducer_argmin_f32_i32 (F := Ideal) a b) b := by
  obtain ⟨a1, a2⟩ := a
  obtain ⟨b1, b2⟩ := b
  have hr : reducer_argmin_f32_i32 (F := Ideal) (a1, a2) (b1, b2)
      = (if a1 < b1 then a1 else b1, if a1 < b1 ∨ (a1 = b1 ∧ a2.toInt < b2.toInt) then a2 else b2) := by
    unfold reducer_argmin_f32_i32
    simp only [Ideal.cmpf_def, Ideal.cmp, Scalar.select, IntOp.ori, IntOp.andi, IntOp.cmpi, BitVec.slt]
    by_cases h1 : a1 < b1 <;> by_cases h2 : a1 = b1 <;> by_cases h3 : a2.toInt < b2.toInt <;> simp [h1, h2, h3]
  rw [hr]
  unfold NoLater
  rcases lt_trichotomy a1 b1 with h | h | h
  · simp [h]
  · subst h
    by_cases h3 : a2.toInt < b2.toInt
    · simp [h3, h3.le]
    · simp [h3]; omega
  · simp [h, h.not_gt, h.ne']

open Cert.ReferenceIdeal in
/-- A fold of the reducer returns the start or a listed pair, and comes no later than any of them. -/
theorem foldl_reducer (l : List (EReal × BitVec 32)) (init : EReal × BitVec 32) :
    (l.foldl (reducer_argmin_f32_i32 (F := Ideal)) init = init ∨ l.foldl (reducer_argmin_f32_i32 (F := Ideal)) init ∈ l)
      ∧ NoLater (l.foldl (reducer_argmin_f32_i32 (F := Ideal)) init) init
      ∧ ∀ p ∈ l, NoLater (l.foldl (reducer_argmin_f32_i32 (F := Ideal)) init) p := by
  induction l generalizing init with
  | nil => exact ⟨Or.inl rfl, Or.inr ⟨rfl, le_rfl⟩, fun _ h => nomatch h⟩
  | cons a l ih =>
    obtain ⟨h1, h2, h3⟩ := ih (reducer_argmin_f32_i32 (F := Ideal) init a)
    obtain ⟨s1, s2, s3⟩ := reducer_spec init a
    rw [List.foldl_cons]
    refine ⟨?_, h2.trans s2, fun p hp => ?_⟩
    · rcases h1 with h1 | h1
      · rcases s1 with s1 | s1
        · exact Or.inl (h1.trans s1)
        · exact Or.inr (by rw [h1, s1]; exact List.mem_cons_self)
      · exact Or.inr (List.mem_cons_of_mem _ h1)
    · rcases List.mem_cons.mp hp with rfl | hp
      · exact h2.trans s3
      · exact h3 p hp

/-- The word of a position, read as an integer, is the position. -/
theorem toInt_pos (k : Fin 512) : (BitVec.ofNat 32 k.val).toInt = (k.val : ℤ) := by
  have := k.isLt
  rw [BitVec.toInt_eq_toNat_of_lt (by rw [BitVec.toNat_ofNat]; omega), BitVec.toNat_ofNat]
  norm_cast
  omega

open Cert.ReferenceIdeal in
/-- A list holding exactly the pairs of `f` with their positions folds, from the top at position zero, to the first
    least position. -/
theorem foldl_first (f : Fin 512 → EReal) (l : List (EReal × BitVec 32))
    (hl : ∀ p, p ∈ l ↔ ∃ k : Fin 512, p = (f k, BitVec.ofNat 32 k.val)) :
    (l.foldl (reducer_argmin_f32_i32 (F := Ideal)) (⊤, 0#32)).2 = BitVec.ofNat 32 (first f).val := by
  obtain ⟨h1, _, h3⟩ := foldl_reducer l (⊤, 0#32)
  generalize l.foldl (reducer_argmin_f32_i32 (F := Ideal)) (⊤, 0#32) = r at h1 h3
  have h4 : ∀ k : Fin 512, NoLater r (f k, BitVec.ofNat 32 k.val) := fun k => h3 _ ((hl _).mpr ⟨k, rfl⟩)
  rcases h1 with rfl | h1
  · have ht : ∀ k, f k = ⊤ := fun k => by
      rcases h4 k with h | ⟨h, _⟩
      · exact absurd h not_top_lt
      · exact h.symm
    rw [first_unique f (p := 0) ⟨fun k => by rw [ht, ht], fun k _ => Fin.zero_le _⟩]
    rfl
  · obtain ⟨p, rfl⟩ := (hl r).mp h1
    rw [first_unique f (p := p) ⟨fun k => ?_, fun k hk => ?_⟩]
    · rcases h4 k with h | ⟨h, _⟩
      · exact h.le
      · exact h.le
    · rcases h4 k with h | ⟨_, h⟩
      · exact absurd h hk.not_gt
      · simp only [toInt_pos] at h
        exact Fin.le_def.mpr (by exact_mod_cast h)

end Cert.Least
-- ==== Proof.KerVals.lean ====
/- One grid point's block values on the extended reals: codewords, distances, the least one, its position, the codeword picked. -/
module

public import proofs.«01_k».proof.Proof.Block
public import proofs.«01_k».proof.Proof.Least

@[expose] public section

set_option maxRecDepth 16384

noncomputable section

namespace Cert.KernelIdeal.Hand

open Cert.KernelIdeal Cert.KernelIdeal.Gen Idealize.ShloMosaic Idealize.ShloMosaic.TcCoe
open Idealize.ShloMosaic.ValueIdx Cert.Least
open scoped BigOperators

/-- One coordinate of a codeword of a head's block. -/
def bword (x1 : FVec Ideal S1x512x64 .f32) (x2 : FVec Ideal S1x512x1 .f32) (s : Fin 512) (k : Fin 64) : EReal :=
  Ideal.div (x1 (ix3 (0 : Fin 1) s k)) (max (x2 (ix3 (0 : Fin 1) s (0 : Fin 1))) (Ideal.ofBits .f32 0x3C23D70A#32))

/-- An entry of the codewords that the body computes. -/
theorem pay5_at (x1 : FVec Ideal S1x512x64 .f32) (x2 : FVec Ideal S1x512x1 .f32) (s : Fin 512) (k : Fin 64) :
    k0_pay5 (F := Ideal) x1 x2 (ix2 s k) = bword x1 x2 s k := by
  unfold k0_pay5 bword
  refine congrArg₂ Ideal.div ?_ ?_
  · refine shapeCast_apply _ _ _ (ix3 (0 : Fin 1) s k) ?_
    rw [Shape.rowMajor_val_three, Shape.rowMajor_val_two]
    show (0 * 512 + s.val) * 64 + k.val = s.val * 64 + k.val
    omega
  · refine (broadcastTo_apply _ _ _ (ix2 s (0 : Fin 1)) (by intro a; fin_cases a <;> rfl)).trans ?_
    refine congrArg₂ max ?_ rfl
    refine shapeCast_apply _ _ _ (ix3 (0 : Fin 1) s (0 : Fin 1)) ?_
    rw [Shape.rowMajor_val_three, Shape.rowMajor_val_two]
    show (0 * 512 + s.val) * 1 + 0 = s.val * 1 + 0
    omega

/-- An entry of the codewords times -2. -/
theorem pay6_at (x1 : FVec Ideal S1x512x64 .f32) (x2 : FVec Ideal S1x512x1 .f32) (s : Fin 512) (k : Fin 64) :
    k0_pay6 (F := Ideal) x1 x2 (ix2 s k) = Ideal.ofBits .f32 0xC0000000#32 * bword x1 x2 s k := by
  rw [← pay5_at]; rfl

/-- The squared length of a codeword. -/
theorem pay7_at (x1 : FVec Ideal S1x512x64 .f32) (x2 : FVec Ideal S1x512x1 .f32) (s : Fin 512) :
    k0_pay7 (F := Ideal) x1 x2 (ix2 s (0 : Fin 1)) = ∑ k : Fin 64, bword x1 x2 s k * bword x1 x2 s k := by
  unfold k0_pay7
  refine (shapeCast_apply _ _ _ (ix1 s) ?_).trans ?_
  · rw [Shape.rowMajor_val_one, Shape.rowMajor_val_two]
    show s.val = s.val * 1 + 0
    omega
  · refine (Ideal.multiReduction_add_single _ _ _ _ _ _).trans ?_
    refine Finset.sum_congr rfl fun k _ => ?_
    have e : reduces_S512x64_S512.lift (ix1 s) k = ix2 s k := by funext a; fin_cases a <;> rfl
    refine (mulf_apply _ _ _).trans ?_
    rw [e]
    exact congrArg₂ (· * ·) (pay5_at x1 x2 s k) (pay5_at x1 x2 s k)

/-- The distance of a column to a codeword. -/
def bgap (x0 : FVec Ideal S2x1x16x64x128 .f32) (x1 : FVec Ideal S1x512x64 .f32) (x2 : FVec Ideal S1x512x1 .f32)
    (n : Fin 4096) (s : Fin 512) : EReal :=
  ((∑ k : Fin 64, cols (F := Ideal) x0 (ix2 k n) * cols (F := Ideal) x0 (ix2 k n))
    + ∑ k : Fin 64, (Ideal.ofBits .f32 0xC0000000#32 * bword x1 x2 s k) * cols (F := Ideal) x0 (ix2 k n))
    + ∑ k : Fin 64, bword x1 x2 s k * bword x1 x2 s k

/-- An entry of the matrix of distances. -/
theorem distOf_at (x0 : FVec Ideal S2x1x16x64x128 .f32) (x1 : FVec Ideal S1x512x64 .f32) (x2 : FVec Ideal S1x512x1 .f32)
    (s : Fin 512) (n : Fin 4096) : distOf (F := Ideal) x0 x1 x2 (ix2 s n) = bgap x0 x1 x2 n s := by
  unfold distOf dist bgap
  rw [addf_apply, addf_apply]
  refine congrArg₂ (· + ·) (congrArg₂ (· + ·) ?_ ?_) ?_
  · rw [broadcastTo_apply _ _ _ (ix2 (0 : Fin 1) n) (by intro a; fin_cases a <;> rfl)]
    refine (shapeCast_apply _ _ _ (ix1 n) ?_).trans ?_
    · rw [Shape.rowMajor_val_one, Shape.rowMajor_val_two]
      show n.val = 0 * 4096 + n.val
      omega
    · refine (Ideal.multiReduction_add_single _ _ _ _ _ _).trans ?_
      refine Finset.sum_congr rfl fun k _ => ?_
      have e : reduces_S64x4096_S4096.lift (ix1 n) k = ix2 k n := by funext a; fin_cases a <;> rfl
      refine (mulf_apply _ _ _).trans ?_
      rw [e]; rfl
  · refine (Ideal.matmul_constant_zero_apply _ _ _ _ _).trans ?_
    rw [← Equiv.sum_comp (contrEquiv1 _ 64 rfl rfl).symm]
    refine Finset.sum_congr rfl fun k _ => ?_
    refine congrArg₂ (· * ·) ?_ ?_
    · rw [← pay6_at]
      refine congrArg _ ?_
      funext a; fin_cases a <;> rfl
    · refine congrArg _ ?_
      funext a; fin_cases a <;> rfl
  · rw [broadcastTo_apply _ _ _ (ix2 s (0 : Fin 1)) (by intro a; fin_cases a <;> rfl), pay7_at]

/-- The word of infinity is the top. -/
theorem inf_top : Ideal.ofBits .f32 0x7F800000#32 = ⊤ := by simp [Ideal.ofBits, Ideal.ieee]

/-- A minimum down the columns is the fold over the rows. -/
theorem colMin (d : FVec Ideal S512x4096 .f32) (n : Fin 4096) (f : Fin 512 → EReal) (hf : ∀ s, d (ix2 s n) = f s) :
    shapeCast S1x4096 (multiReduction .minimumf [0] S4096 d 0x7F800000#32 reduces_S512x4096_S4096 (.inl rfl) rfl) shapeCasts_S4096_S1x4096
      (ix2 (0 : Fin 1) n) = (Finset.univ : Finset (Fin 512)).fold min ⊤ f := by
  refine (shapeCast_apply _ _ _ (ix1 n) ?_).trans ?_
  · rw [Shape.rowMajor_val_one, Shape.rowMajor_val_two]
    show n.val = 0 * 4096 + n.val
    omega
  · classical
    refine (multiReduction_minimumf_eq_fold _ _ _ _ _ _).trans ?_
    refine (reduces_S512x4096_S4096.fold_filter_drop_single _ _ d (ix1 n)).trans ?_
    refine (congrArg (fun e => (Finset.univ : Finset (Fin 512)).fold min e _) inf_top).trans ?_
    refine congrArg (fun g => (Finset.univ : Finset (Fin 512)).fold min ⊤ g) ?_
    funext s
    have e : reduces_S512x4096_S4096.lift (ix1 n) s = ix2 s n := by funext a; fin_cases a <;> rfl
    exact (congrArg d e).trans (hf s)

/-- The distances of a column. -/
abbrev col (d : FVec Ideal S512x4096 .f32) (n : Fin 4096) : Fin 512 → EReal := fun s => d (ix2 s n)

/-- The minimum of a column is its value at the first least position. -/
theorem least_at (d : FVec Ideal S512x4096 .f32) (n : Fin 4096) :
    least (F := Ideal) d (ix2 (0 : Fin 1) n) = col d n (first (col d n)) := by
  unfold least
  rw [colMin d n (col d n) (fun _ => rfl), fold_min_first]

/-- The column of row numbers, as floats. -/
theorem iota_at (s : Fin 512) : k0_pay41 (F := Ideal) (ix2 s (0 : Fin 1)) = (((s.val : ℕ) : ℝ) : EReal) := by
  unfold k0_pay41
  rw [sitofp_apply, iota_single_apply]
  show (((BitVec.ofNat 32 s.val).toInt : ℝ) : EReal) = _
  rw [toInt_pos, Int.cast_natCast]

/-- The word of 512 is 512. -/
theorem f512 : Ideal.ofBits .f32 0x44000000#32 = ((512 : ℝ) : EReal) := by
  simp [Ideal.ofBits, Ideal.ieee]
  rw [← EReal.coe_mul]
  norm_num

/-- Equality of two extended reals as a bit selects by that equality. -/
theorem select_oeq {α : Type} (x y : EReal) (a b : α) :
    Scalar.select (FloatOps.cmpf (F := Ideal) (φ := .f32) .oeq x y) a b = if x = y then a else b := by
  show Scalar.select (BitVec.ofBool (decide (x = y))) a b = _
  by_cases h : x = y
  · rw [if_pos h, decide_eq_true h]; rfl
  · rw [if_neg h, decide_eq_false h]; rfl

/-- The row number found in a column is that of its first least position. -/
theorem pick_at (d : FVec Ideal S512x4096 .f32) (n : Fin 4096) :
    pick (F := Ideal) d (ix2 (0 : Fin 1) n) = ((((first (col d n)).val : ℕ) : ℝ) : EReal) := by
  unfold pick
  rw [← fold_pick (col d n)]
  refine colMin _ n _ fun s => ?_
  rw [select_apply, cmpf_apply, broadcastTo_apply _ _ _ (ix2 (0 : Fin 1) n) (by intro a; fin_cases a <;> rfl), least_at,
    broadcastTo_apply _ _ _ (ix2 s (0 : Fin 1)) (by intro a; fin_cases a <;> rfl)]
  have hc : shapeCast S512x1 (k0_pay41 (F := Ideal)) shapeCasts_S512x1_S512x1 (ix2 s (0 : Fin 1)) = (((s.val : ℕ) : ℝ) : EReal) :=
    (shapeCast_apply _ _ _ (ix2 s (0 : Fin 1)) rfl).trans (iota_at s)
  rw [hc, select_oeq]
  exact congrArg (fun z => if col d n s = col d n (first (col d n)) then (((s.val : ℕ) : ℝ) : EReal) else z) f512

/-- The bit of an equality, widened and made a float, is one or zero. -/
theorem bit_float (x y : EReal) :
    FloatOps.sitofp (F := Ideal) .f32 ((FloatOps.cmpf (F := Ideal) (φ := .f32) .oeq x y).setWidth 32) = if x = y then (1 : EReal) else 0 := by
  show ((((BitVec.ofBool (decide (x = y))).setWidth 32).toInt : ℝ) : EReal) = _
  by_cases h : x = y
  · rw [if_pos h, decide_eq_true h, show ((BitVec.ofBool true).setWidth 32).toInt = 1 by decide]; simp
  · rw [if_neg h, decide_eq_false h, show ((BitVec.ofBool false).setWidth 32).toInt = 0 by decide]; simp

/-- The product with the 0/1 matrix takes, for each column, the codeword whose number stands there. -/
theorem picked_at (cw : FVec Ideal S512x64 .f32) (p : FVec Ideal S1x4096 .f32) (k : Fin 64) (n : Fin 4096) (q : Fin 512)
    (hp : p (ix2 (0 : Fin 1) n) = (((q.val : ℕ) : ℝ) : EReal)) :
    picked (F := Ideal) cw p (ix2 k n) = cw (ix2 q k) := by
  unfold picked
  refine (Ideal.matmul_constant_zero_apply _ _ _ _ _).trans ?_
  rw [← Equiv.sum_comp (contrEquiv1 _ 512 rfl rfl).symm]
  have t : ∀ s : Fin 512, cw (dot_S512x64_S512x4096_S64x4096_0_0_1_1_n_n.lhsIdx (ix2 k n) ((contrEquiv1 _ 512 rfl rfl).symm s))
      * (sitofp (F := Ideal) .f32 (extui 32 (cmpf .oeq (broadcastTo S512x4096 (k0_pay41 (F := Ideal)) broadcasts_S512x1_S512x4096)
      (broadcastTo S512x4096 p broadcasts_S1x4096_S512x4096)) natLt_1_32) : FVec Ideal S512x4096 .f32)
        (dot_S512x64_S512x4096_S64x4096_0_0_1_1_n_n.rhsIdx (ix2 k n) ((contrEquiv1 _ 512 rfl rfl).symm s))
      = cw (ix2 s k) * (if (((s.val : ℕ) : ℝ) : EReal) = (((q.val : ℕ) : ℝ) : EReal) then (1 : EReal) else 0) := by
    intro s
    have el : dot_S512x64_S512x4096_S64x4096_0_0_1_1_n_n.lhsIdx (ix2 k n) ((contrEquiv1 _ 512 rfl rfl).symm s) = ix2 s k := by
      funext a; fin_cases a <;> rfl
    have er : dot_S512x64_S512x4096_S64x4096_0_0_1_1_n_n.rhsIdx (ix2 k n) ((contrEquiv1 _ 512 rfl rfl).symm s) = ix2 s n := by
      funext a; fin_cases a <;> rfl
    rw [el, er, sitofp_apply, extui_apply, cmpf_apply, bit_float,
      broadcastTo_apply _ _ _ (ix2 (0 : Fin 1) n) (by intro a; fin_cases a <;> rfl), hp,
      broadcastTo_apply _ _ _ (ix2 s (0 : Fin 1)) (by intro a; fin_cases a <;> rfl), iota_at]
  refine (Finset.sum_congr rfl fun s _ => t s).trans ?_
  rw [Finset.sum_eq_single q]
  · rw [if_pos rfl, mul_one]
  · intro s _ hs
    rw [if_neg, mul_zero]
    intro e
    apply hs
    have e' : ((s.val : ℕ) : ℝ) = ((q.val : ℕ) : ℝ) := EReal.coe_injective e
    exact Fin.ext (Nat.cast_injective e')
  · intro h; exact absurd (Finset.mem_univ _) h

end Cert.KernelIdeal.Hand
-- ==== Proof.KerOut.lean ====
/- What one grid point leaves in each output block, read at an index, on the extended reals. -/
module

public import proofs.«01_k».proof.Proof.KerVals

@[expose] public section

set_option maxRecDepth 16384

noncomputable section

namespace Cert.KernelIdeal.Hand

open Cert.KernelIdeal Cert.KernelIdeal.Gen Idealize.ShloMosaic Idealize.ShloMosaic.TcCoe
open Idealize.ShloMosaic.ValueIdx Cert.Least
open scoped BigOperators

/-- The column holding the vector of batch entry `b`, row `r`, column `c`. -/
def at3 (b : Fin 2) (r : Fin 16) (c : Fin 128) : Fin 4096 := ⟨(b.val * 16 + r.val) * 128 + c.val, by omega⟩

/-- A column of a head's matrix is the vector of its tile and place. -/
theorem cols_at (x0 : FVec Ideal S2x1x16x64x128 .f32) (b : Fin 2) (r : Fin 16) (c : Fin 128) (k : Fin 64) :
    cols (F := Ideal) x0 (ix2 k (at3 b r c)) = x0 (ix5 b (0 : Fin 1) r k c) := by
  unfold cols slab
  refine congrArg x0 (funext fun a => Fin.ext ?_)
  match a with
  | ⟨0, _⟩ =>
    show ((b.val * 16 + r.val) * 128 + c.val) / 128 / 16 = b.val
    omega
  | ⟨1, _⟩ => rfl
  | ⟨2, _⟩ =>
    show ((b.val * 16 + r.val) * 128 + c.val) / 128 % 16 = r.val
    omega
  | ⟨3, _⟩ => rfl
  | ⟨4, _⟩ =>
    show ((b.val * 16 + r.val) * 128 + c.val) % 128 = c.val
    omega

/-- The first codeword nearest a column. -/
def bnear (x0 : FVec Ideal S2x1x16x64x128 .f32) (x1 : FVec Ideal S1x512x64 .f32) (x2 : FVec Ideal S1x512x1 .f32) (n : Fin 4096) : Fin 512 :=
  first (bgap x0 x1 x2 n)

/-- The squared error of a column: its least distance, no less than zero. -/
def berr (x0 : FVec Ideal S2x1x16x64x128 .f32) (x1 : FVec Ideal S1x512x64 .f32) (x2 : FVec Ideal S1x512x1 .f32) (n : Fin 4096) : EReal :=
  max (bgap x0 x1 x2 n (bnear x0 x1 x2 n)) 0

/-- A column of the distances, by codeword. -/
theorem col_distOf (x0 : FVec Ideal S2x1x16x64x128 .f32) (x1 : FVec Ideal S1x512x64 .f32) (x2 : FVec Ideal S1x512x1 .f32) (n : Fin 4096) :
    col (distOf (F := Ideal) x0 x1 x2) n = bgap x0 x1 x2 n := funext fun s => distOf_at x0 x1 x2 s n

/-- The position picked in a column is that of the nearest codeword. -/
theorem pick_near (x0 : FVec Ideal S2x1x16x64x128 .f32) (x1 : FVec Ideal S1x512x64 .f32) (x2 : FVec Ideal S1x512x1 .f32) (n : Fin 4096) :
    pick (F := Ideal) (distOf (F := Ideal) x0 x1 x2) (ix2 (0 : Fin 1) n) = ((((bnear x0 x1 x2 n).val : ℕ) : ℝ) : EReal) := by
  rw [pick_at, col_distOf]; rfl

/-- The clipped minimum of a column is the clipped distance to the nearest codeword. -/
theorem pay2_near (x0 : FVec Ideal S2x1x16x64x128 .f32) (x1 : FVec Ideal S1x512x64 .f32) (x2 : FVec Ideal S1x512x1 .f32) (n : Fin 4096) :
    k0_pay2 (F := Ideal) (least (F := Ideal) (distOf (F := Ideal) x0 x1 x2)) (ix2 (0 : Fin 1) n) = berr x0 x1 x2 n := by
  unfold k0_pay2 berr bnear
  rw [maximumf_apply]
  refine congrArg₂ max ?_ Ideal.ofBits_zero_f32
  rw [least_at, col_distOf]

/-- The quantised vectors' block holds the nearest codeword. -/
theorem out3_at (x0 : FVec Ideal S2x1x16x64x128 .f32) (x1 : FVec Ideal S1x512x64 .f32) (x2 : FVec Ideal S1x512x1 .f32)
    (b : Fin 2) (r : Fin 16) (k : Fin 64) (c : Fin 128) :
    out3 (F := Ideal) x0 x1 x2 (ix5 b (0 : Fin 1) r k c) = bword x1 x2 (bnear x0 x1 x2 (at3 b r c)) k := by
  rw [← pay5_at]
  exact picked_at _ _ k (at3 b r c) _ (pick_near x0 x1 x2 _)

/-- A position converted to a word and back is itself. -/
theorem fptosi_pos (q : Fin 512) : FloatOps.fptosi (F := Ideal) (φ := .f32) 32 ((((q.val : ℕ) : ℝ) : EReal)) = BitVec.ofNat 32 q.val := by
  show BitVec.ofInt 32 (Ideal.toIntClamped (-((2 ^ (32 - 1) : ℕ) : ℤ)) (((2 ^ (32 - 1) : ℕ) : ℤ) - 1) ((((q.val : ℕ) : ℝ) : EReal))) = _
  have hq := q.isLt
  rw [Ideal.toIntClamped_coe, if_pos (Nat.cast_nonneg _), Int.floor_natCast]
  have e : max (-((2 ^ (32 - 1) : ℕ) : ℤ)) (min (((2 ^ (32 - 1) : ℕ) : ℤ) - 1) (q.val : ℤ)) = (q.val : ℤ) := by
    norm_num; omega
  rw [e, BitVec.ofInt_natCast]

/-- The positions' block holds the nearest codeword's position. -/
theorem out4_at (x0 : FVec Ideal S2x1x16x64x128 .f32) (x1 : FVec Ideal S1x512x64 .f32) (x2 : FVec Ideal S1x512x1 .f32)
    (b : Fin 2) (r : Fin 16) (c : Fin 128) :
    out4 (F := Ideal) x0 x1 x2 (ix4 b (0 : Fin 1) r c) = BitVec.ofNat 32 (bnear x0 x1 x2 (at3 b r c)).val := by
  unfold out4 k0_pay1
  refine (shapeCast_apply _ _ _ (ix2 (0 : Fin 1) (at3 b r c)) ?_).trans ?_
  · rw [Shape.rowMajor_val_two, Shape.rowMajor_val_four]
    show 0 * 4096 + ((b.val * 16 + r.val) * 128 + c.val) = ((b.val * 1 + 0) * 16 + r.val) * 128 + c.val
    omega
  · rw [← fptosi_pos, ← pick_near]; rfl

/-- The errors' block holds the squared errors. -/
theorem out5_at (x0 : FVec Ideal S2x1x16x64x128 .f32) (x1 : FVec Ideal S1x512x64 .f32) (x2 : FVec Ideal S1x512x1 .f32)
    (b : Fin 2) (r : Fin 16) (c : Fin 128) :
    out5 (F := Ideal) x0 x1 x2 (ix4 b (0 : Fin 1) r c) = berr x0 x1 x2 (at3 b r c) := by
  unfold out5 k0_pay3
  refine (shapeCast_apply _ _ _ (ix2 (0 : Fin 1) (at3 b r c)) ?_).trans (pay2_near x0 x1 x2 _)
  rw [Shape.rowMajor_val_two, Shape.rowMajor_val_four]
  show 0 * 4096 + ((b.val * 16 + r.val) * 128 + c.val) = ((b.val * 1 + 0) * 16 + r.val) * 128 + c.val
  omega

/-- The indices of a row of 4096 entries under two unit axes are its entries. -/
def unit4096 : Fin 4096 ≃ S1x1x4096.Idx where
  toFun n := ix3 (0 : Fin 1) (0 : Fin 1) n
  invFun i := i 2
  left_inv _ := rfl
  right_inv i := by
    funext a
    match a with
    | ⟨0, _⟩ => exact Subsingleton.elim (α := Fin 1) _ _
    | ⟨1, _⟩ => exact Subsingleton.elim (α := Fin 1) _ _
    | ⟨2, _⟩ => rfl

/-- The running total a point leaves: the one it found, or zero at the first head, plus the head's squared errors. -/
theorem out6_at (i : grid0.Coords) (x0 : FVec Ideal S2x1x16x64x128 .f32) (x1 : FVec Ideal S1x512x64 .f32) (x2 : FVec Ideal S1x512x1 .f32)
    (x6 : FVec Ideal S1x1 .f32) (j : S1x1.Idx) :
    out6 (F := Ideal) i x0 x1 x2 x6 j = (if (i 0).val = 0 then 0 else x6 (ix2 (0 : Fin 1) (0 : Fin 1))) + ∑ n : Fin 4096, berr x0 x1 x2 n := by
  unfold out6 k0_pay4
  refine congrArg₂ (· + ·) ?_ ?_
  · have hi : (i 0).val < 8 := (i 0).isLt
    by_cases h : (i 0).val = 0
    · rw [if_pos h, h]; exact Ideal.ofBits_zero_f32
    · rw [if_neg h]
      have hc : Scalar.cmpi .eq (BitVec.ofNat 32 (i 0).val) 0#32 = 0#1 := by
        generalize (i 0).val = n at hi h
        interval_cases n <;> first | rfl | exact absurd rfl h
      show Scalar.select (Scalar.cmpi .eq (BitVec.ofNat 32 (i 0).val) 0#32) _ _ = _
      rw [hc, select_zero]
  · refine (shapeCast_apply (s := S1) (t := S1x1x1) _ _ _ (ix1 (0 : Fin 1)) rfl).trans ?_
    refine (Ideal.multiReduction_add_total _ _ _ (by decide) _ _ _).trans ?_
    refine (Fintype.sum_equiv unit4096 _ _ fun n => ?_).symm
    refine (pay2_near x0 x1 x2 n).symm.trans (shapeCast_apply _ _ _ (ix2 (0 : Fin 1) n) ?_).symm
    rw [Shape.rowMajor_val_two, Shape.rowMajor_val_three]
    rfl

end Cert.KernelIdeal.Hand
-- ==== Proof.Arrays.lean ====
/- The launch's arrays: each head's blocks of the inputs, and what the four output arrays hold after the last point. -/
module

public import proofs.«01_k».proof.Proof.Launch
public import proofs.«01_k».proof.Proof.KerOut
public import Idealize.ShloMosaic.Lib.Pipeline.ValueKit.Geometry

@[expose] public section

set_option maxRecDepth 16384

noncomputable section

namespace Cert.KernelIdeal.Hand

open Cert.KernelIdeal Cert.KernelIdeal.Gen Idealize.ShloMosaic Idealize.ShloMosaic.TcCoe
open Idealize.ShloMosaic.ValueIdx Cert.Least
open Idealize.ShloMosaic.Pipeline (Dat Cfg Window)
open scoped BigOperators

variable (m : (ℓ : Loc nD τ sig) → Buf (Elt Ideal) ℓ)

/-- The head a grid point handles. -/
def headOf (t : Fin cfg0.N) : Fin 8 := ⟨t.val, lt_of_lt_of_eq t.isLt (show cfg0.N = 8 from N_0)⟩

/-- One head of the vectors. -/
def hd0 (A : FVec Ideal S2x8x16x64x128 .f32) (h : Fin 8) : FVec Ideal S2x1x16x64x128 .f32 := fun i => A (ix5 (i 0) h (i 2) (i 3) (i 4))
/-- One head of the codeword sums. -/
def hd1 (A : FVec Ideal S8x512x64 .f32) (h : Fin 8) : FVec Ideal S1x512x64 .f32 := fun i => A (ix3 h (i 1) (i 2))
/-- One head of the codeword counts. -/
def hd2 (A : FVec Ideal S8x512x1 .f32) (h : Fin 8) : FVec Ideal S1x512x1 .f32 := fun i => A (ix3 h (i 1) (i 2))

/-- The block index of window 0 at each point: the head. -/
theorem index0 : ∀ t : Fin cfg0.N, ∀ a, win0_0.index t a = (![0, t.val, 0, 0, 0] : Fin 5 → ℕ) a := by decide +kernel
/-- The block index of window 1 at each point: the head. -/
theorem index1 : ∀ t : Fin cfg0.N, ∀ a, win0_1.index t a = (![t.val, 0, 0] : Fin 3 → ℕ) a := by decide +kernel
/-- The block index of window 2 at each point: the head. -/
theorem index2 : ∀ t : Fin cfg0.N, ∀ a, win0_2.index t a = (![t.val, 0, 0] : Fin 3 → ℕ) a := by decide +kernel
/-- The block index of window 3 at each point: the head. -/
theorem index3 : ∀ t : Fin cfg0.N, ∀ a, win0_3.index t a = (![0, t.val, 0, 0, 0] : Fin 5 → ℕ) a := by decide +kernel
/-- The block index of window 4 at each point: the head. -/
theorem index4 : ∀ t : Fin cfg0.N, ∀ a, win0_4.index t a = (![0, t.val, 0, 0] : Fin 4 → ℕ) a := by decide +kernel
/-- The block index of window 5 at each point: the head. -/
theorem index5 : ∀ t : Fin cfg0.N, ∀ a, win0_5.index t a = (![0, t.val, 0, 0] : Fin 4 → ℕ) a := by decide +kernel

/-- The block of the vectors at a point is that head's part. -/
theorem blk0_eq (c : Dev nD) (t : Fin cfg0.N) : iblk m c 0 t = hd0 (V m c main_v0) (headOf t) := by
  funext i
  show V m c main_v0 ((win0_0.blk t).view.emb i) = V m c main_v0 _
  refine congrArg _ (funext fun a => Fin.ext ?_)
  have e := index0 t
  blk_simp
  rw [e a]
  have h1 : (i 1).val < 1 := (i 1).isLt
  match a with
  | ⟨0, _⟩ => show 0 * 2 + (i 0).val = (i 0).val; omega
  | ⟨1, _⟩ => show t.val * 1 + (i 1).val = t.val; omega
  | ⟨2, _⟩ => show 0 * 16 + (i 2).val = (i 2).val; omega
  | ⟨3, _⟩ => show 0 * 64 + (i 3).val = (i 3).val; omega
  | ⟨4, _⟩ => show 0 * 128 + (i 4).val = (i 4).val; omega

/-- The block of the codeword sums at a point is that head's part. -/
theorem blk1_eq (c : Dev nD) (t : Fin cfg0.N) : iblk m c 1 t = hd1 (V m c main_arg1) (headOf t) := by
  funext i
  show V m c main_arg1 ((win0_1.blk t).view.emb i) = V m c main_arg1 _
  refine congrArg _ (funext fun a => Fin.ext ?_)
  have e := index1 t
  blk_simp
  rw [e a]
  have h1 : (i 0).val < 1 := (i 0).isLt
  match a with
  | ⟨0, _⟩ => show t.val * 1 + (i 0).val = t.val; omega
  | ⟨1, _⟩ => show 0 * 512 + (i 1).val = (i 1).val; omega
  | ⟨2, _⟩ => show 0 * 64 + (i 2).val = (i 2).val; omega

/-- The block of the counts at a point is that head's part. -/
theorem blk2_eq (c : Dev nD) (t : Fin cfg0.N) : iblk m c 2 t = hd2 (V m c main_v1) (headOf t) := by
  funext i
  show V m c main_v1 ((win0_2.blk t).view.emb i) = V m c main_v1 _
  refine congrArg _ (funext fun a => Fin.ext ?_)
  have e := index2 t
  blk_simp
  rw [e a]
  have h1 : (i 0).val < 1 := (i 0).isLt
  match a with
  | ⟨0, _⟩ => show t.val * 1 + (i 0).val = t.val; omega
  | ⟨1, _⟩ => show 0 * 512 + (i 1).val = (i 1).val; omega
  | ⟨2, _⟩ => show 0 * 1 + (i 2).val = (i 2).val; omega

/-- The quantised vectors' array, from whole input arrays. -/
def arr3 (A0 : FVec Ideal S2x8x16x64x128 .f32) (A1 : FVec Ideal S8x512x64 .f32) (A2 : FVec Ideal S8x512x1 .f32) : FVec Ideal S2x8x16x64x128 .f32 :=
  fun i => out3 (F := Ideal) (hd0 A0 (i 1)) (hd1 A1 (i 1)) (hd2 A2 (i 1)) (ix5 (i 0) (0 : Fin 1) (i 2) (i 3) (i 4))
/-- The positions' array. -/
def arr4 (A0 : FVec Ideal S2x8x16x64x128 .f32) (A1 : FVec Ideal S8x512x64 .f32) (A2 : FVec Ideal S8x512x1 .f32) : IVec S2x8x16x128 32 :=
  fun i => out4 (F := Ideal) (hd0 A0 (i 1)) (hd1 A1 (i 1)) (hd2 A2 (i 1)) (ix4 (i 0) (0 : Fin 1) (i 2) (i 3))
/-- The squared errors' array. -/
def arr5 (A0 : FVec Ideal S2x8x16x64x128 .f32) (A1 : FVec Ideal S8x512x64 .f32) (A2 : FVec Ideal S8x512x1 .f32) : FVec Ideal S2x8x16x128 .f32 :=
  fun i => out5 (F := Ideal) (hd0 A0 (i 1)) (hd1 A1 (i 1)) (hd2 A2 (i 1)) (ix4 (i 0) (0 : Fin 1) (i 2) (i 3))

/-- After the last point the first output array holds the codewords found. -/
theorem final3 (c : Dev nD) : (dats m 0 c).arrAt 3 cfg0.N = arr3 (V m c main_v0) (V m c main_arg1) (V m c main_v1) := by
  refine (dats m 0 c).arrAt_eq_of_covers 3 _ (by decide +kernel) fun t hf y => ?_
  have e := index3 t
  have h1 : (y 1).val < 1 := (y 1).isLt
  blk_simp
  rw [left3, blk0_eq, blk1_eq, blk2_eq]
  have ei : ((win0_3.blk t).view.emb y) = ix5 (y 0) (headOf t) (y 2) (y 3) (y 4) := by
    funext a; refine Fin.ext ?_
    blk_simp
    rw [e a]
    match a with
    | ⟨0, _⟩ => show 0 * 2 + (y 0).val = (y 0).val; omega
    | ⟨1, _⟩ => show t.val * 1 + (y 1).val = t.val; omega
    | ⟨2, _⟩ => show 0 * 16 + (y 2).val = (y 2).val; omega
    | ⟨3, _⟩ => show 0 * 64 + (y 3).val = (y 3).val; omega
    | ⟨4, _⟩ => show 0 * 128 + (y 4).val = (y 4).val; omega
  refine Eq.trans ?_ (congrArg (arr3 (V m c main_v0) (V m c main_arg1) (V m c main_v1)) ei).symm
  show out3 (F := Ideal) _ _ _ y = out3 (F := Ideal) _ _ _ (ix5 (y 0) (0 : Fin 1) (y 2) (y 3) (y 4))
  refine congrArg _ ?_
  funext a
  match a with
  | ⟨0, _⟩ => rfl
  | ⟨1, _⟩ => exact Fin.ext (by show (y 1).val = 0; omega)
  | ⟨2, _⟩ => rfl
  | ⟨3, _⟩ => rfl
  | ⟨4, _⟩ => rfl

/-- After the last point the second output array holds their indices. -/
theorem final4 (c : Dev nD) : (dats m 0 c).arrAt 4 cfg0.N = arr4 (V m c main_v0) (V m c main_arg1) (V m c main_v1) := by
  refine (dats m 0 c).arrAt_eq_of_covers 4 _ (by decide +kernel) fun t hf y => ?_
  have e := index4 t
  have h1 : (y 1).val < 1 := (y 1).isLt
  blk_simp
  rw [left4, blk0_eq, blk1_eq, blk2_eq]
  have ei : ((win0_4.blk t).view.emb y) = ix4 (y 0) (headOf t) (y 2) (y 3) := by
    funext a; refine Fin.ext ?_
    blk_simp
    rw [e a]
    match a with
    | ⟨0, _⟩ => show 0 * 2 + (y 0).val = (y 0).val; omega
    | ⟨1, _⟩ => show t.val * 1 + (y 1).val = t.val; omega
    | ⟨2, _⟩ => show 0 * 16 + (y 2).val = (y 2).val; omega
    | ⟨3, _⟩ => show 0 * 128 + (y 3).val = (y 3).val; omega
  refine Eq.trans ?_ (congrArg (arr4 (V m c main_v0) (V m c main_arg1) (V m c main_v1)) ei).symm
  show out4 (F := Ideal) _ _ _ y = out4 (F := Ideal) _ _ _ (ix4 (y 0) (0 : Fin 1) (y 2) (y 3))
  refine congrArg _ ?_
  funext a
  match a with
  | ⟨0, _⟩ => rfl
  | ⟨1, _⟩ => exact Fin.ext (by show (y 1).val = 0; omega)
  | ⟨2, _⟩ => rfl
  | ⟨3, _⟩ => rfl

/-- After the last point the third output array holds the clipped distances. -/
theorem final5 (c : Dev nD) : (dats m 0 c).arrAt 5 cfg0.N = arr5 (V m c main_v0) (V m c main_arg1) (V m c main_v1) := by
  refine (dats m 0 c).arrAt_eq_of_covers 5 _ (by decide +kernel) fun t hf y => ?_
  have e := index5 t
  have h1 : (y 1).val < 1 := (y 1).isLt
  blk_simp
  rw [left5, blk0_eq, blk1_eq, blk2_eq]
  have ei : ((win0_5.blk t).view.emb y) = ix4 (y 0) (headOf t) (y 2) (y 3) := by
    funext a; refine Fin.ext ?_
    blk_simp
    rw [e a]
    match a with
    | ⟨0, _⟩ => show 0 * 2 + (y 0).val = (y 0).val; omega
    | ⟨1, _⟩ => show t.val * 1 + (y 1).val = t.val; omega
    | ⟨2, _⟩ => show 0 * 16 + (y 2).val = (y 2).val; omega
    | ⟨3, _⟩ => show 0 * 128 + (y 3).val = (y 3).val; omega
  refine Eq.trans ?_ (congrArg (arr5 (V m c main_v0) (V m c main_arg1) (V m c main_v1)) ei).symm
  show out5 (F := Ideal) _ _ _ y = out5 (F := Ideal) _ _ _ (ix4 (y 0) (0 : Fin 1) (y 2) (y 3))
  refine congrArg _ ?_
  funext a
  match a with
  | ⟨0, _⟩ => rfl
  | ⟨1, _⟩ => exact Fin.ext (by show (y 1).val = 0; omega)
  | ⟨2, _⟩ => rfl
  | ⟨3, _⟩ => rfl

/-- One head's squared errors, summed. -/
def headSum (A0 : FVec Ideal S2x8x16x64x128 .f32) (A1 : FVec Ideal S8x512x64 .f32) (A2 : FVec Ideal S8x512x1 .f32) (h : Fin 8) : EReal :=
  ∑ n : Fin 4096, berr (hd0 A0 h) (hd1 A1 h) (hd2 A2 h) n

/-- The running total after point `n`: the first `n + 1` heads' sums. -/
theorem totalAt_at (c : Dev nD) (n : ℕ) (hn : n < cfg0.N) (j : S1x1.Idx) :
    totalAt m c n hn j = ∑ h : Fin (n + 1), headSum (V m c main_v0) (V m c main_arg1) (V m c main_v1)
      ⟨h.val, lt_of_lt_of_le h.isLt (le_of_le_of_eq hn (show cfg0.N = 8 from N_0))⟩ := by
  induction n generalizing j with
  | zero =>
    rw [Fin.sum_univ_one]
    show out6 (F := Ideal) _ _ _ _ _ j = _
    rw [out6_at, if_pos (head_val ⟨0, hn⟩), zero_add, blk0_eq, blk1_eq, blk2_eq]
    rfl
  | succ n ih =>
    rw [Fin.sum_univ_castSucc]
    show out6 (F := Ideal) _ _ _ _ _ j = _
    rw [out6_at, if_neg (by rw [head_val ⟨n + 1, hn⟩]; exact Nat.succ_ne_zero n), ih, blk0_eq, blk1_eq, blk2_eq]
    rfl

/-- After the last point the total is the sum over the eight heads. -/
theorem final6 (c : Dev nD) : (dats m 0 c).arrAt 6 cfg0.N
    = fun _ => ∑ h : Fin 8, headSum (V m c main_v0) (V m c main_arg1) (V m c main_v1) h := by
  refine (dats m 0 c).arrAt_eq_of_covers 6 _ (by decide +kernel) fun t hf y => ?_
  have hN : t.val < 8 := lt_of_lt_of_eq t.isLt (show cfg0.N = 8 from N_0)
  have ht : t.val = 7 := by have := (flush0_6 t).mp hf; omega
  blk_simp
  rw [left6]
  obtain ⟨t, htl⟩ := t
  dsimp only at ht
  subst ht
  exact totalAt_at m c 7 htl _

end Cert.KernelIdeal.Hand
-- ==== Proof.KerRun.lean ====
/- The kernel's run on the extended reals: what its five result arrays hold, as functions of its three arguments. -/
module

public import proofs.«01_k».proof.Proof.Arrays

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.StableHlo Idealize.ShloMosaic.ValueIdx
open scoped BigOperators

variable (m : (ℓ : Loc nD τ sig) → Buf (Elt Ideal) ℓ) (ρ : Dev nD → PrngReg)

/-- The vectors with coordinates before columns, as the launch takes them. -/
def vt (a0 : FVec Ideal S2x8x16x128x64 .f32) : FVec Ideal S2x8x16x64x128 .f32 :=
  transpose S2x8x16x64x128 [0, 1, 2, 4, 3] a0 transposes_S2x8x16x128x64_S2x8x16x64x128_0_1_2_4_3
/-- The counts under a trailing unit axis, as the launch takes them. -/
def cc (a2 : FVec Ideal S8x512 .f32) : FVec Ideal S8x512x1 .f32 := shapeCast S8x512x1 a2 shapeCasts_S8x512_S8x512x1

/-- Before the call the vectors are transposed. -/
theorem pre_v0 (W : Valuation τ sig (Elt Ideal)) :
    after (List.flatten [hostOps0]) W (Proc.devRef .tc main_v0) = vt (W (Proc.devRef .tc main_arg0)) := by
  simp only [hostOps0, List.flatten_cons, List.flatten_nil, List.append_nil]
  after_results_simp <;> rfl

/-- Before the call the counts get a last axis of one. -/
theorem pre_v1 (W : Valuation τ sig (Elt Ideal)) :
    after (List.flatten [hostOps0]) W (Proc.devRef .tc main_v1) = cc (W (Proc.devRef .tc main_arg2)) := by
  simp only [hostOps0, List.flatten_cons, List.flatten_nil, List.append_nil]
  after_results_simp <;> rfl

/-- The call finds the transposed vectors. -/
theorem V_v0 (c : Dev nD) : V m c main_v0 = vt (m ((c.tc : Thread nD τ).loc main_arg0)) := pre_v0 _
/-- The call finds the reshaped counts. -/
theorem V_v1 (c : Dev nD) : V m c main_v1 = cc (m ((c.tc : Thread nD τ).loc main_arg2)) := pre_v1 _

/-- After the call the codewords found are transposed back. -/
theorem post_v3 (W : Valuation τ sig (Elt Ideal)) :
    after (List.flatten [hostOps1]) W (Proc.devRef .tc main_v3)
      = transpose S2x8x16x128x64 [0, 1, 2, 4, 3] (W (Proc.devRef .tc main_v2_0) : FVec Ideal S2x8x16x64x128 .f32) transposes_S2x8x16x64x128_S2x8x16x128x64_0_1_2_4_3 := by
  simp only [hostOps1, List.flatten_cons, List.flatten_nil, List.append_nil]
  after_results_simp <;> rfl

/-- The total over the number of vectors of a head. -/
def meanOf (s : FVec Ideal S1x1 .f32) : FVec Ideal S_ .f32 :=
  Host.divf (shapeCast S_ s shapeCasts_S1x1_S_) (constant S_ .f32 0x45800000#32)

/-- After the call the total is divided by the number of places. -/
theorem post_v5 (W : Valuation τ sig (Elt Ideal)) :
    after (List.flatten [hostOps1]) W (Proc.devRef .tc main_v5) = meanOf (W (Proc.devRef .tc main_v2_3)) := by
  simp only [hostOps1, List.flatten_cons, List.flatten_nil, List.append_nil]
  after_results_simp <;> rfl

/-- After the call the codebook loss is the constant zero. -/
theorem post_cst_0 (W : Valuation τ sig (Elt Ideal)) :
    after (List.flatten [hostOps1]) W (Proc.devRef .tc main_cst_0) = (constant S_ .f32 0x00000000#32 : FVec Ideal S_ .f32) := by
  simp only [hostOps1, List.flatten_cons, List.flatten_nil, List.append_nil]
  after_results_simp <;> rfl

/-- The seven windows stage seven different arrays. -/
theorem arrays_apart : Function.Injective (Pipeline.arrRef spec0) := by decide

/-- The quantised vectors, from the three arguments. -/
def kHat (a0 : FVec Ideal S2x8x16x128x64 .f32) (a1 : FVec Ideal S8x512x64 .f32) (a2 : FVec Ideal S8x512 .f32) : FVec Ideal S2x8x16x128x64 .f32 :=
  transpose S2x8x16x128x64 [0, 1, 2, 4, 3] (arr3 (vt a0) a1 (cc a2)) transposes_S2x8x16x64x128_S2x8x16x128x64_0_1_2_4_3
/-- The commitment loss, from the three arguments. -/
def kCommit (a0 : FVec Ideal S2x8x16x128x64 .f32) (a1 : FVec Ideal S8x512x64 .f32) (a2 : FVec Ideal S8x512 .f32) : FVec Ideal S_ .f32 :=
  meanOf fun _ => ∑ h : Fin 8, headSum (vt a0) a1 (cc a2) h

/-- The kernel's run: every result array at its value and every argument unchanged. -/
theorem results : θ_run defs (onTc (τ := τ) (main (F := Ideal))) ⟨m, fun _ => 0, ρ⟩ fun r => ∀ c : Dev nD,
      r.2.mem ((c.tc : Thread nD τ).loc main_v3) = kHat (m ((c.tc : Thread nD τ).loc main_arg0)) (m ((c.tc : Thread nD τ).loc main_arg1)) (m ((c.tc : Thread nD τ).loc main_arg2))
      ∧ r.2.mem ((c.tc : Thread nD τ).loc main_v2_1) = arr4 (vt (m ((c.tc : Thread nD τ).loc main_arg0))) (m ((c.tc : Thread nD τ).loc main_arg1)) (cc (m ((c.tc : Thread nD τ).loc main_arg2)))
      ∧ r.2.mem ((c.tc : Thread nD τ).loc main_v5) = kCommit (m ((c.tc : Thread nD τ).loc main_arg0)) (m ((c.tc : Thread nD τ).loc main_arg1)) (m ((c.tc : Thread nD τ).loc main_arg2))
      ∧ r.2.mem ((c.tc : Thread nD τ).loc main_cst_0) = (constant S_ .f32 0x00000000#32 : FVec Ideal S_ .f32)
      ∧ r.2.mem ((c.tc : Thread nD τ).loc main_v2_2) = arr5 (vt (m ((c.tc : Thread nD τ).loc main_arg0))) (m ((c.tc : Thread nD τ).loc main_arg1)) (cc (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (θ_run_and (launch_post m ρ) (frame_kept m ρ))
  obtain ⟨h, k⟩ := h
  refine ⟨?_, ?_, ?_, ?_, ?_, (k.1 c).1, (k.1 c).2.1, (k.1 c).2.2⟩
  · refine ((h c).2 main_v3 (Pipeline.mem_restRefs_of main_v3 (by decide) (by decide))).trans ?_
    refine (post_v3 _).trans ?_
    unfold kHat
    refine congrArg (fun x => transpose S2x8x16x128x64 [0, 1, 2, 4, 3] x transposes_S2x8x16x64x128_S2x8x16x128x64_0_1_2_4_3) ?_
    refine (Pipeline.withArrays_arr spec0 arrays_apart c (V0 m c) _ 3).trans ?_
    rw [final3, V_v0, V_v1, V_main_arg1]
  · refine ((h c).1 4).trans ?_
    rw [final4, V_v0, V_v1, V_main_arg1]
  · refine ((h c).2 main_v5 (Pipeline.mem_restRefs_of main_v5 (by decide) (by decide))).trans ?_
    refine (post_v5 _).trans ?_
    unfold kCommit
    refine congrArg meanOf ?_
    refine (Pipeline.withArrays_arr spec0 arrays_apart c (V0 m c) _ 6).trans ?_
    rw [final6, V_v0, V_v1, V_main_arg1]
    rfl
  · refine ((h c).2 main_cst_0 (Pipeline.mem_restRefs_of main_cst_0 (by decide) (by decide))).trans ?_
    exact post_cst_0 _
  · refine ((h c).1 5).trans ?_
    rw [final5, V_v0, V_v1, V_main_arg1]

end Cert.KernelIdeal.Hand
-- ==== Proof.RefRun.lean ====
/- The reference program as a list of its operations, stretch by stretch, and what its run leaves. -/
module

public import proofs.«01_k».proof.Proof.RefVals
public import Idealize.ShloMosaic.Lib.StableHlo.RunRead
public import Idealize.ShloMosaic.Lib.Pipeline.Frame
public import Idealize.ShloMosaic.Lib.Quiescent

@[expose] public section

set_option maxRecDepth 16384

noncomputable section

namespace Cert.ReferenceIdeal.Hand

open Cert.ReferenceIdeal Cert.ReferenceIdeal.Gen Idealize.ShloMosaic Idealize.ShloMosaic.TcCoe Idealize.SL.Sem
open Idealize.ShloMosaic.StableHlo

variable {F : FTy → Type} [FloatOps F]

/-- The stretch computing the codewords and the distances. -/
abbrev opsA : List (HloOp τ sig (Elt F)) :=
  [ unary main_arg2 main_v0 (broadcastInDim S8x512x1 ![0, 1] bcast_S8x512_S8x512x1_0_1 : (⟨S8x512, .f32⟩ : BufTy).Contents (Elt F) → (⟨S8x512x1, .f32⟩ : BufTy).Contents (Elt F))
  , nullary main_cst (constant S_ .f32 0x3C23D70A#32)
  , TRef.unary (TRef.of (T := ⟨S_, .f32⟩) main_cst) (TRef.of (T := ⟨S_, .f32⟩) main_call0_v0) id
  , TRef.unary (TRef.of (T := ⟨S_, .f32⟩) main_call0_v0) (TRef.of (T := ⟨S8x512x1, .f32⟩) main_call0_v1) (broadcastInDim S8x512x1 ![] bcast_S_S8x512x1)
  , TRef.binary (TRef.of (T := ⟨S8x512x1, .f32⟩) main_call0_v1) (TRef.of (T := ⟨S8x512x1, .f32⟩) main_v0) (TRef.of (T := ⟨S8x512x1, .f32⟩) main_v1) maximumf
  , unary main_v1 main_v2 (broadcastInDim S8x512x64 ![0, 1, 2] bcast_S8x512x1_S8x512x64_0_1_2 : (⟨S8x512x1, .f32⟩ : BufTy).Contents (Elt F) → (⟨S8x512x64, .f32⟩ : BufTy).Contents (Elt F))
  , binary main_arg1 main_v2 main_v3 (Host.divf : (⟨S8x512x64, .f32⟩ : BufTy).Contents (Elt F) → (⟨S8x512x64, .f32⟩ : BufTy).Contents (Elt F) → (⟨S8x512x64, .f32⟩ : BufTy).Contents (Elt F))
  , binary main_arg0 main_arg0 main_v4 (mulf : (⟨S2x8x16x128x64, .f32⟩ : BufTy).Contents (Elt F) → (⟨S2x8x16x128x64, .f32⟩ : BufTy).Contents (Elt F) → (⟨S2x8x16x128x64, .f32⟩ : BufTy).Contents (Elt F))
  , nullary main_cst_0 (constant S_ .f32 0x00000000#32)
  , binary main_v4 main_cst_0 main_v5 ((fun x v => Host.reduceAdd x v reducesTo_S2x8x16x128x64_S2x8x16x128_d4 h_S_) : (⟨S2x8x16x128x64, .f32⟩ : BufTy).Contents (Elt F) → (⟨S_, .f32⟩ : BufTy).Contents (Elt F) → (⟨S2x8x16x128, .f32⟩ : BufTy).Contents (Elt F))
  , unary main_v5 main_v6 (broadcastInDim S2x8x16x128x1 ![0, 1, 2, 3] bcast_S2x8x16x128_S2x8x16x128x1_0_1_2_3 : (⟨S2x8x16x128, .f32⟩ : BufTy).Contents (Elt F) → (⟨S2x8x16x128x1, .f32⟩ : BufTy).Contents (Elt F))
  , binary main_v3 main_arg0 main_v7 ((fun l r => Host.dotGeneral dot_S8x512x64_S2x8x16x128x64_S8x512x2x16x128_2_4_1_023_0_1 none l r) : (⟨S8x512x64, .f32⟩ : BufTy).Contents (Elt F) → (⟨S2x8x16x128x64, .f32⟩ : BufTy).Contents (Elt F) → (⟨S8x512x2x16x128, .f32⟩ : BufTy).Contents (Elt F))
  , unary main_v7 main_v8 ((transpose S2x8x16x128x512 [2, 0, 3, 4, 1] · transposes_S8x512x2x16x128_S2x8x16x128x512_2_0_3_4_1) : (⟨S8x512x2x16x128, .f32⟩ : BufTy).Contents (Elt F) → (⟨S2x8x16x128x512, .f32⟩ : BufTy).Contents (Elt F))
  , nullary main_cst_1 (constant S_ .f32 0x40000000#32)
  , unary main_cst_1 main_v9 (broadcastInDim S2x8x16x128x512 ![] bcast_S_S2x8x16x128x512 : (⟨S_, .f32⟩ : BufTy).Contents (Elt F) → (⟨S2x8x16x128x512, .f32⟩ : BufTy).Contents (Elt F))
  , binary main_v9 main_v8 main_v10 (mulf : (⟨S2x8x16x128x512, .f32⟩ : BufTy).Contents (Elt F) → (⟨S2x8x16x128x512, .f32⟩ : BufTy).Contents (Elt F) → (⟨S2x8x16x128x512, .f32⟩ : BufTy).Contents (Elt F))
  , unary main_v6 main_v11 (broadcastInDim S2x8x16x128x512 ![0, 1, 2, 3, 4] bcast_S2x8x16x128x1_S2x8x16x128x512_0_1_2_3_4 : (⟨S2x8x16x128x1, .f32⟩ : BufTy).Contents (Elt F) → (⟨S2x8x16x128x512, .f32⟩ : BufTy).Contents (Elt F))
  , binary main_v11 main_v10 main_v12 (subf : (⟨S2x8x16x128x512, .f32⟩ : BufTy).Contents (Elt F) → (⟨S2x8x16x128x512, .f32⟩ : BufTy).Contents (Elt F) → (⟨S2x8x16x128x512, .f32⟩ : BufTy).Contents (Elt F))
  , binary main_v3 main_v3 main_v13 (mulf : (⟨S8x512x64, .f32⟩ : BufTy).Contents (Elt F) → (⟨S8x512x64, .f32⟩ : BufTy).Contents (Elt F) → (⟨S8x512x64, .f32⟩ : BufTy).Contents (Elt F))
  , nullary main_cst_2 (constant S_ .f32 0x00000000#32)
  , binary main_v13 main_cst_2 main_v14 ((fun x v => Host.reduceAdd x v reducesTo_S8x512x64_S8x512_d2 h_S_) : (⟨S8x512x64, .f32⟩ : BufTy).Contents (Elt F) → (⟨S_, .f32⟩ : BufTy).Contents (Elt F) → (⟨S8x512, .f32⟩ : BufTy).Contents (Elt F))
  , unary main_v14 main_v15 (broadcastInDim S1x8x1x1x512 ![1, 4] bcast_S8x512_S1x8x1x1x512_1_4 : (⟨S8x512, .f32⟩ : BufTy).Contents (Elt F) → (⟨S1x8x1x1x512, .f32⟩ : BufTy).Contents (Elt F))
  , unary main_v15 main_v16 (broadcastInDim S2x8x16x128x512 ![0, 1, 2, 3, 4] bcast_S1x8x1x1x512_S2x8x16x128x512_0_1_2_3_4 : (⟨S1x8x1x1x512, .f32⟩ : BufTy).Contents (Elt F) → (⟨S2x8x16x128x512, .f32⟩ : BufTy).Contents (Elt F))
  , binary main_v12 main_v16 main_v17 (addf : (⟨S2x8x16x128x512, .f32⟩ : BufTy).Contents (Elt F) → (⟨S2x8x16x128x512, .f32⟩ : BufTy).Contents (Elt F) → (⟨S2x8x16x128x512, .f32⟩ : BufTy).Contents (Elt F)) ]

/-- The operations of this stretch touch arrays of the program only. -/
theorem subA : (opsA (F := F)).Forall fun op => op.bufs ⊆ tcRefs τ sig :=
  ⟨unary_bufs_sub .., nullary_bufs_sub .., unary_bufs_sub .., unary_bufs_sub .., binary_bufs_sub .., unary_bufs_sub .., binary_bufs_sub .., binary_bufs_sub .., nullary_bufs_sub .., binary_bufs_sub .., unary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., binary_bufs_sub ..⟩

/-- They allocate nothing. -/
theorem freshA : ∀ op ∈ opsA (F := F), op.fresh = ∅ := by
  intro _ h; (repeat (cases h with | head => rfl | tail _ h => ?_)); exact nomatch h

/-- The arrays that stretch writes. -/
abbrev writesA : List (Ref sig .tc) :=
  [main_v0, main_cst, main_call0_v0, main_call0_v1, main_v1, main_v2, main_v3, main_v4, main_cst_0, main_v5, main_v6, main_v7, main_v8, main_cst_1, main_v9, main_v10, main_v11, main_v12, main_v13, main_cst_2, main_v14, main_v15, main_v16, main_v17]

/-- They keep every array that they do not write. -/
theorem keptA {r : Ref sig .tc} (hr : r ∉ writesA) (V : Valuation τ sig (Elt F)) :
    after opsA V (Proc.devRef .tc r) = V (Proc.devRef .tc r) :=
  after_unwritten writesA rfl hr V

/-- The stretch computing the least distance and its position. -/
abbrev opsB : List (HloOp τ sig (Elt F)) :=
  [ TRef.nullary (TRef.of (T := ⟨S2x8x16x128x512, .i32⟩) main_call1_v0) (iotaInDim S2x8x16x128x512 32 4)
  , TRef.nullary (TRef.of (T := ⟨S_, .f32⟩) main_call1_cst) (constant S_ .f32 0x7F800000#32)
  , TRef.nullary (TRef.of (T := ⟨S_, .i32⟩) main_call1_c) (constantI S_ 32 0#32)
  , TRef.quaternary (TRef.of (T := ⟨S2x8x16x128x512, .f32⟩) main_v17) (TRef.of (T := ⟨S2x8x16x128x512, .i32⟩) main_call1_v0) (TRef.of (T := ⟨S_, .f32⟩) main_call1_cst) (TRef.of (T := ⟨S_, .i32⟩) main_call1_c) (TRef.of (T := ⟨S2x8x16x128, .f32⟩) main_call1_v1_0) (fun x y u v j => (Host.argReduce reducer_argmin_f32_i32 x y u v reducesTo_S2x8x16x128x512_S2x8x16x128_d4 h_S_ j).1)
  , TRef.quaternary (TRef.of (T := ⟨S2x8x16x128x512, .f32⟩) main_v17) (TRef.of (T := ⟨S2x8x16x128x512, .i32⟩) main_call1_v0) (TRef.of (T := ⟨S_, .f32⟩) main_call1_cst) (TRef.of (T := ⟨S_, .i32⟩) main_call1_c) (TRef.of (T := ⟨S2x8x16x128, .i32⟩) main_v18) (fun x y u v j => (Host.argReduce reducer_argmin_f32_i32 x y u v reducesTo_S2x8x16x128x512_S2x8x16x128_d4 h_S_ j).2)
  , nullary main_cst_3 (constant S_ .f32 0x7F800000#32)
  , binary main_v17 main_cst_3 main_v19 ((fun x v => Host.reduce FloatOps.minimumf x v reducesTo_S2x8x16x128x512_S2x8x16x128_d4 h_S_) : (⟨S2x8x16x128x512, .f32⟩ : BufTy).Contents (Elt F) → (⟨S_, .f32⟩ : BufTy).Contents (Elt F) → (⟨S2x8x16x128, .f32⟩ : BufTy).Contents (Elt F))
  , TRef.nullary (TRef.of (T := ⟨S_, .f32⟩) main_call2_cst) (constant S_ .f32 0x00000000#32)
  , TRef.unary (TRef.of (T := ⟨S_, .f32⟩) main_call2_cst) (TRef.of (T := ⟨S2x8x16x128, .f32⟩) main_call2_v0) (broadcastInDim S2x8x16x128 ![] bcast_S_S2x8x16x128)
  , TRef.binary (TRef.of (T := ⟨S2x8x16x128, .f32⟩) main_v19) (TRef.of (T := ⟨S2x8x16x128, .f32⟩) main_call2_v0) (TRef.of (T := ⟨S2x8x16x128, .f32⟩) main_v20) maximumf ]

/-- The operations of this stretch touch arrays of the program only. -/
theorem subB : (opsB (F := F)).Forall fun op => op.bufs ⊆ tcRefs τ sig :=
  ⟨nullary_bufs_sub .., nullary_bufs_sub .., nullary_bufs_sub .., quaternary_bufs_sub .., quaternary_bufs_sub .., nullary_bufs_sub .., binary_bufs_sub .., nullary_bufs_sub .., unary_bufs_sub .., binary_bufs_sub ..⟩

/-- They allocate nothing. -/
theorem freshB : ∀ op ∈ opsB (F := F), op.fresh = ∅ := by
  intro _ h; (repeat (cases h with | head => rfl | tail _ h => ?_)); exact nomatch h

/-- The arrays that stretch writes. -/
abbrev writesB : List (Ref sig .tc) :=
  [main_call1_v0, main_call1_cst, main_call1_c, main_call1_v1_0, main_v18, main_cst_3, main_v19, main_call2_cst, main_call2_v0, main_v20]

/-- They keep every array that they do not write. -/
theorem keptB {r : Ref sig .tc} (hr : r ∉ writesB) (V : Valuation τ sig (Elt F)) :
    after opsB V (Proc.devRef .tc r) = V (Proc.devRef .tc r) :=
  after_unwritten writesB rfl hr V

/-- The stretch computing the chosen codewords. -/
abbrev opsC : List (HloOp τ sig (Elt F)) :=
  [ unary main_v3 main_v21 (broadcastInDim S1x8x1x512x64 ![1, 3, 4] bcast_S8x512x64_S1x8x1x512x64_1_3_4 : (⟨S8x512x64, .f32⟩ : BufTy).Contents (Elt F) → (⟨S1x8x1x512x64, .f32⟩ : BufTy).Contents (Elt F))
  , unary main_v18 main_v22 (broadcastInDim S2x8x16x128x1 ![0, 1, 2, 3] bcast_S2x8x16x128_S2x8x16x128x1_0_1_2_3 : (⟨S2x8x16x128, .i32⟩ : BufTy).Contents (Elt F) → (⟨S2x8x16x128x1, .i32⟩ : BufTy).Contents (Elt F))
  , TRef.nullary (TRef.of (T := ⟨S_, .i32⟩) main_call3_c) (constantI S_ 32 0#32)
  , TRef.unary (TRef.of (T := ⟨S_, .i32⟩) main_call3_c) (TRef.of (T := ⟨S2x8x16x128x1, .i32⟩) main_call3_v0) (broadcastInDim S2x8x16x128x1 ![] bcast_S_S2x8x16x128x1)
  , TRef.binary (TRef.of (T := ⟨S2x8x16x128x1, .i32⟩) main_v22) (TRef.of (T := ⟨S2x8x16x128x1, .i32⟩) main_call3_v0) (TRef.of (T := ⟨S2x8x16x128x1, .i1⟩) main_call3_v1) (cmpi .slt)
  , TRef.nullary (TRef.of (T := ⟨S_, .i32⟩) main_call3_c_0) (constantI S_ 32 512#32)
  , TRef.unary (TRef.of (T := ⟨S_, .i32⟩) main_call3_c_0) (TRef.of (T := ⟨S2x8x16x128x1, .i32⟩) main_call3_v2) (broadcastInDim S2x8x16x128x1 ![] bcast_S_S2x8x16x128x1)
  , TRef.binary (TRef.of (T := ⟨S2x8x16x128x1, .i32⟩) main_v22) (TRef.of (T := ⟨S2x8x16x128x1, .i32⟩) main_call3_v2) (TRef.of (T := ⟨S2x8x16x128x1, .i32⟩) main_call3_v3) addi
  , TRef.ternary (TRef.of (T := ⟨S2x8x16x128x1, .i1⟩) main_call3_v1) (TRef.of (T := ⟨S2x8x16x128x1, .i32⟩) main_call3_v3) (TRef.of (T := ⟨S2x8x16x128x1, .i32⟩) main_v22) (TRef.of (T := ⟨S2x8x16x128x1, .i32⟩) main_call3_v4) select
  , TRef.reshape (TRef.of (T := ⟨S1x8x1x512x64, .f32⟩) main_v21) (TRef.of (T := ⟨S8x512x64, .f32⟩) main_call3_v5) (rfl : (.f32 : EltTy) = .f32) shapeCasts_S1x8x1x512x64_S8x512x64
  , TRef.nullary (TRef.of (T := ⟨S1, .i32⟩) main_call3_c_1) (constantI S1 32 511#32)
  , TRef.nullary (TRef.of (T := ⟨S_, .i32⟩) main_call3_c_2) (constantI S_ 32 0#32)
  , TRef.unary (TRef.of (T := ⟨S_, .i32⟩) main_call3_c_2) (TRef.of (T := ⟨S2x8x16x128x1, .i32⟩) main_call3_v6) (broadcastInDim S2x8x16x128x1 ![] bcast_S_S2x8x16x128x1)
  , TRef.binary (TRef.of (T := ⟨S2x8x16x128x1, .i32⟩) main_call3_v4) (TRef.of (T := ⟨S2x8x16x128x1, .i32⟩) main_call3_v6) (TRef.of (T := ⟨S2x8x16x128x1, .i1⟩) main_call3_v7) (cmpi .sge)
  , TRef.unary (TRef.of (T := ⟨S1, .i32⟩) main_call3_c_1) (TRef.of (T := ⟨S1x1x1x1x1, .i32⟩) main_call3_v8) (broadcastInDim S1x1x1x1x1 ![4] bcast_S1_S1x1x1x1x1_4)
  , TRef.unary (TRef.of (T := ⟨S1x1x1x1x1, .i32⟩) main_call3_v8) (TRef.of (T := ⟨S2x8x16x128x1, .i32⟩) main_call3_v9) (broadcastInDim S2x8x16x128x1 ![0, 1, 2, 3, 4] bcast_S1x1x1x1x1_S2x8x16x128x1_0_1_2_3_4)
  , TRef.binary (TRef.of (T := ⟨S2x8x16x128x1, .i32⟩) main_call3_v4) (TRef.of (T := ⟨S2x8x16x128x1, .i32⟩) main_call3_v9) (TRef.of (T := ⟨S2x8x16x128x1, .i1⟩) main_call3_v10) (cmpi .sle)
  , TRef.binary (TRef.of (T := ⟨S2x8x16x128x1, .i1⟩) main_call3_v7) (TRef.of (T := ⟨S2x8x16x128x1, .i1⟩) main_call3_v10) (TRef.of (T := ⟨S2x8x16x128x1, .i1⟩) main_call3_v11) andi
  , TRef.nullary (TRef.of (T := ⟨S_, .i1⟩) main_call3_c_3) (constantI S_ 1 1#1)
  , TRef.binary (TRef.of (T := ⟨S2x8x16x128x1, .i1⟩) main_call3_v11) (TRef.of (T := ⟨S_, .i1⟩) main_call3_c_3) (TRef.of (T := ⟨S2x8x16x128, .i1⟩) main_call3_v12) (fun x v => Host.reduce IntOp.andi x v reducesTo_S2x8x16x128x1_S2x8x16x128_d4 h_S_)
  , TRef.binary (TRef.of (T := ⟨S8x512x64, .f32⟩) main_call3_v5) (TRef.of (T := ⟨S2x8x16x128x1, .i32⟩) main_call3_v4) (TRef.of (T := ⟨S2x8x16x128x64, .f32⟩) main_call3_v13) (fun x i => Host.gather gather_S8x512x64_S2x8x16x128x1_S2x8x16x128x64_4_1_0_1_1_4_1164 x i)
  , TRef.unary (TRef.of (T := ⟨S2x8x16x128, .i1⟩) main_call3_v12) (TRef.of (T := ⟨S2x8x16x128x64, .i1⟩) main_call3_v14) (broadcastInDim S2x8x16x128x64 ![0, 1, 2, 3] bcast_S2x8x16x128_S2x8x16x128x64_0_1_2_3)
  , TRef.nullary (TRef.of (T := ⟨S_, .f32⟩) main_call3_cst) (constant S_ .f32 0x7FC00000#32)
  , TRef.unary (TRef.of (T := ⟨S_, .f32⟩) main_call3_cst) (TRef.of (T := ⟨S2x8x16x128x64, .f32⟩) main_call3_v15) (broadcastInDim S2x8x16x128x64 ![] bcast_S_S2x8x16x128x64)
  , TRef.ternary (TRef.of (T := ⟨S2x8x16x128x64, .i1⟩) main_call3_v14) (TRef.of (T := ⟨S2x8x16x128x64, .f32⟩) main_call3_v13) (TRef.of (T := ⟨S2x8x16x128x64, .f32⟩) main_call3_v15) (TRef.of (T := ⟨S2x8x16x128x64, .f32⟩) main_v23) select
  , binary main_arg0 main_arg0 main_v24 (subf : (⟨S2x8x16x128x64, .f32⟩ : BufTy).Contents (Elt F) → (⟨S2x8x16x128x64, .f32⟩ : BufTy).Contents (Elt F) → (⟨S2x8x16x128x64, .f32⟩ : BufTy).Contents (Elt F))
  , binary main_v23 main_v24 main_v25 (addf : (⟨S2x8x16x128x64, .f32⟩ : BufTy).Contents (Elt F) → (⟨S2x8x16x128x64, .f32⟩ : BufTy).Contents (Elt F) → (⟨S2x8x16x128x64, .f32⟩ : BufTy).Contents (Elt F)) ]

/-- The operations of this stretch touch arrays of the program only. -/
theorem subC : (opsC (F := F)).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., binary_bufs_sub ..⟩

/-- They allocate nothing. -/
theorem freshC : ∀ op ∈ opsC (F := F), op.fresh = ∅ := by
  intro _ h; (repeat (cases h with | head => rfl | tail _ h => ?_)); exact nomatch h

/-- The arrays that stretch writes. -/
abbrev writesC : List (Ref sig .tc) :=
  [main_v21, main_v22, main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v23, main_v24, main_v25]

/-- They keep every array that they do not write. -/
theorem keptC {r : Ref sig .tc} (hr : r ∉ writesC) (V : Valuation τ sig (Elt F)) :
    after opsC V (Proc.devRef .tc r) = V (Proc.devRef .tc r) :=
  after_unwritten writesC rfl hr V

/-- The stretch computing the commitment loss. -/
abbrev opsD : List (HloOp τ sig (Elt F)) :=
  [ nullary main_cst_4 (constant S_ .f32 0x00000000#32)
  , binary main_v20 main_cst_4 main_v26 ((fun x v => Host.reduceAdd x v reducesTo_S2x8x16x128_S2x16x128_d1 h_S_) : (⟨S2x8x16x128, .f32⟩ : BufTy).Contents (Elt F) → (⟨S_, .f32⟩ : BufTy).Contents (Elt F) → (⟨S2x16x128, .f32⟩ : BufTy).Contents (Elt F))
  , nullary main_cst_5 (constant S_ .f32 0x00000000#32)
  , binary main_v26 main_cst_5 main_v27 ((fun x v => Host.reduceAdd x v reducesTo_S2x16x128_S_d0_1_2 h_S_) : (⟨S2x16x128, .f32⟩ : BufTy).Contents (Elt F) → (⟨S_, .f32⟩ : BufTy).Contents (Elt F) → (⟨S_, .f32⟩ : BufTy).Contents (Elt F))
  , nullary main_cst_6 (constant S_ .f32 0x45800000#32)
  , binary main_v27 main_cst_6 main_v28 (Host.divf : (⟨S_, .f32⟩ : BufTy).Contents (Elt F) → (⟨S_, .f32⟩ : BufTy).Contents (Elt F) → (⟨S_, .f32⟩ : BufTy).Contents (Elt F)) ]

/-- The operations of this stretch touch arrays of the program only. -/
theorem subD : (opsD (F := F)).Forall fun op => op.bufs ⊆ tcRefs τ sig :=
  ⟨nullary_bufs_sub .., binary_bufs_sub .., nullary_bufs_sub .., binary_bufs_sub .., nullary_bufs_sub .., binary_bufs_sub ..⟩

/-- They allocate nothing. -/
theorem freshD : ∀ op ∈ opsD (F := F), op.fresh = ∅ := by
  intro _ h; (repeat (cases h with | head => rfl | tail _ h => ?_)); exact nomatch h

/-- The arrays that stretch writes. -/
abbrev writesD : List (Ref sig .tc) :=
  [main_cst_4, main_v26, main_cst_5, main_v27, main_cst_6, main_v28]

/-- They keep every array that they do not write. -/
theorem keptD {r : Ref sig .tc} (hr : r ∉ writesD) (V : Valuation τ sig (Elt F)) :
    after opsD V (Proc.devRef .tc r) = V (Proc.devRef .tc r) :=
  after_unwritten writesD rfl hr V

/-- The stretch computing the codebook loss. -/
abbrev opsE : List (HloOp τ sig (Elt F)) :=
  [ TRef.unary (TRef.of (T := ⟨S2x8x16x128, .i32⟩) main_v18) (TRef.of (T := ⟨S2x8x16x128x1, .i32⟩) main_call4_v0) (broadcastInDim S2x8x16x128x1 ![0, 1, 2, 3] bcast_S2x8x16x128_S2x8x16x128x1_0_1_2_3)
  , TRef.nullary (TRef.of (T := ⟨S1x1x1x1x512, .i32⟩) main_call4_v1) (iotaInDim S1x1x1x1x512 32 4)
  , TRef.unary (TRef.of (T := ⟨S2x8x16x128x1, .i32⟩) main_call4_v0) (TRef.of (T := ⟨S2x8x16x128x512, .i32⟩) main_call4_v2) (broadcastInDim S2x8x16x128x512 ![0, 1, 2, 3, 4] bcast_S2x8x16x128x1_S2x8x16x128x512_0_1_2_3_4)
  , TRef.unary (TRef.of (T := ⟨S1x1x1x1x512, .i32⟩) main_call4_v1) (TRef.of (T := ⟨S2x8x16x128x512, .i32⟩) main_call4_v3) (broadcastInDim S2x8x16x128x512 ![0, 1, 2, 3, 4] bcast_S1x1x1x1x512_S2x8x16x128x512_0_1_2_3_4)
  , TRef.binary (TRef.of (T := ⟨S2x8x16x128x512, .i32⟩) main_call4_v2) (TRef.of (T := ⟨S2x8x16x128x512, .i32⟩) main_call4_v3) (TRef.of (T := ⟨S2x8x16x128x512, .i1⟩) main_call4_v4) (cmpi .eq)
  , TRef.unary (TRef.of (T := ⟨S2x8x16x128x512, .i1⟩) main_call4_v4) (TRef.of (T := ⟨S2x8x16x128x512, .f32⟩) main_v29) (uitofp .f32)
  , binary main_v29 main_arg0 main_v30 ((fun l r => Host.dotGeneral dot_S2x8x16x128x512_S2x8x16x128x64_S8x512x64_032_032_4_4_1_1 none l r) : (⟨S2x8x16x128x512, .f32⟩ : BufTy).Contents (Elt F) → (⟨S2x8x16x128x64, .f32⟩ : BufTy).Contents (Elt F) → (⟨S8x512x64, .f32⟩ : BufTy).Contents (Elt F))
  , nullary main_cst_7 (constant S_ .f32 0x41800000#32)
  , unary main_cst_7 main_v31 (broadcastInDim S8x512x64 ![] bcast_S_S8x512x64 : (⟨S_, .f32⟩ : BufTy).Contents (Elt F) → (⟨S8x512x64, .f32⟩ : BufTy).Contents (Elt F))
  , binary main_v31 main_v30 main_v32 (mulf : (⟨S8x512x64, .f32⟩ : BufTy).Contents (Elt F) → (⟨S8x512x64, .f32⟩ : BufTy).Contents (Elt F) → (⟨S8x512x64, .f32⟩ : BufTy).Contents (Elt F))
  , nullary main_cst_8 (constant S_ .f32 0x00000000#32)
  , binary main_v29 main_cst_8 main_v33 ((fun x v => Host.reduceAdd x v reducesTo_S2x8x16x128x512_S8x512_d0_3_2 h_S_) : (⟨S2x8x16x128x512, .f32⟩ : BufTy).Contents (Elt F) → (⟨S_, .f32⟩ : BufTy).Contents (Elt F) → (⟨S8x512, .f32⟩ : BufTy).Contents (Elt F))
  , nullary main_cst_9 (constant S_ .f32 0x41800000#32)
  , unary main_cst_9 main_v34 (broadcastInDim S8x512 ![] bcast_S_S8x512 : (⟨S_, .f32⟩ : BufTy).Contents (Elt F) → (⟨S8x512, .f32⟩ : BufTy).Contents (Elt F))
  , binary main_v34 main_v33 main_v35 (mulf : (⟨S8x512, .f32⟩ : BufTy).Contents (Elt F) → (⟨S8x512, .f32⟩ : BufTy).Contents (Elt F) → (⟨S8x512, .f32⟩ : BufTy).Contents (Elt F))
  , nullary main_cst_10 (constant S_ .f32 0x3C23D70A#32)
  , unary main_cst_10 main_v36 (broadcastInDim S8x512x64 ![] bcast_S_S8x512x64 : (⟨S_, .f32⟩ : BufTy).Contents (Elt F) → (⟨S8x512x64, .f32⟩ : BufTy).Contents (Elt F))
  , binary main_v36 main_v32 main_v37 (mulf : (⟨S8x512x64, .f32⟩ : BufTy).Contents (Elt F) → (⟨S8x512x64, .f32⟩ : BufTy).Contents (Elt F) → (⟨S8x512x64, .f32⟩ : BufTy).Contents (Elt F))
  , nullary main_cst_11 (constant S_ .f32 0x3F7D70A4#32)
  , unary main_cst_11 main_v38 (broadcastInDim S8x512x64 ![] bcast_S_S8x512x64 : (⟨S_, .f32⟩ : BufTy).Contents (Elt F) → (⟨S8x512x64, .f32⟩ : BufTy).Contents (Elt F))
  , binary main_v38 main_arg1 main_v39 (mulf : (⟨S8x512x64, .f32⟩ : BufTy).Contents (Elt F) → (⟨S8x512x64, .f32⟩ : BufTy).Contents (Elt F) → (⟨S8x512x64, .f32⟩ : BufTy).Contents (Elt F))
  , binary main_v37 main_v39 main_v40 (addf : (⟨S8x512x64, .f32⟩ : BufTy).Contents (Elt F) → (⟨S8x512x64, .f32⟩ : BufTy).Contents (Elt F) → (⟨S8x512x64, .f32⟩ : BufTy).Contents (Elt F))
  , nullary main_cst_12 (constant S_ .f32 0x3C23D70A#32)
  , unary main_cst_12 main_v41 (broadcastInDim S8x512 ![] bcast_S_S8x512 : (⟨S_, .f32⟩ : BufTy).Contents (Elt F) → (⟨S8x512, .f32⟩ : BufTy).Contents (Elt F))
  , binary main_v41 main_v35 main_v42 (mulf : (⟨S8x512, .f32⟩ : BufTy).Contents (Elt F) → (⟨S8x512, .f32⟩ : BufTy).Contents (Elt F) → (⟨S8x512, .f32⟩ : BufTy).Contents (Elt F))
  , nullary main_cst_13 (constant S_ .f32 0x3F7D70A4#32)
  , unary main_cst_13 main_v43 (broadcastInDim S8x512 ![] bcast_S_S8x512 : (⟨S_, .f32⟩ : BufTy).Contents (Elt F) → (⟨S8x512, .f32⟩ : BufTy).Contents (Elt F))
  , binary main_v43 main_arg2 main_v44 (mulf : (⟨S8x512, .f32⟩ : BufTy).Contents (Elt F) → (⟨S8x512, .f32⟩ : BufTy).Contents (Elt F) → (⟨S8x512, .f32⟩ : BufTy).Contents (Elt F))
  , binary main_v42 main_v44 main_v45 (addf : (⟨S8x512, .f32⟩ : BufTy).Contents (Elt F) → (⟨S8x512, .f32⟩ : BufTy).Contents (Elt F) → (⟨S8x512, .f32⟩ : BufTy).Contents (Elt F))
  , binary main_arg1 main_v40 main_v46 (subf : (⟨S8x512x64, .f32⟩ : BufTy).Contents (Elt F) → (⟨S8x512x64, .f32⟩ : BufTy).Contents (Elt F) → (⟨S8x512x64, .f32⟩ : BufTy).Contents (Elt F))
  , binary main_arg1 main_arg1 main_v47 (subf : (⟨S8x512x64, .f32⟩ : BufTy).Contents (Elt F) → (⟨S8x512x64, .f32⟩ : BufTy).Contents (Elt F) → (⟨S8x512x64, .f32⟩ : BufTy).Contents (Elt F))
  , binary main_v46 main_v47 main_v48 (mulf : (⟨S8x512x64, .f32⟩ : BufTy).Contents (Elt F) → (⟨S8x512x64, .f32⟩ : BufTy).Contents (Elt F) → (⟨S8x512x64, .f32⟩ : BufTy).Contents (Elt F))
  , nullary main_cst_14 (constant S_ .f32 0x00000000#32)
  , binary main_v48 main_cst_14 main_v49 ((fun x v => Host.reduceAdd x v reducesTo_S8x512x64_S_d0_1_2 h_S_) : (⟨S8x512x64, .f32⟩ : BufTy).Contents (Elt F) → (⟨S_, .f32⟩ : BufTy).Contents (Elt F) → (⟨S_, .f32⟩ : BufTy).Contents (Elt F))
  , binary main_arg2 main_v45 main_v50 (subf : (⟨S8x512, .f32⟩ : BufTy).Contents (Elt F) → (⟨S8x512, .f32⟩ : BufTy).Contents (Elt F) → (⟨S8x512, .f32⟩ : BufTy).Contents (Elt F))
  , binary main_arg2 main_arg2 main_v51 (subf : (⟨S8x512, .f32⟩ : BufTy).Contents (Elt F) → (⟨S8x512, .f32⟩ : BufTy).Contents (Elt F) → (⟨S8x512, .f32⟩ : BufTy).Contents (Elt F))
  , binary main_v50 main_v51 main_v52 (mulf : (⟨S8x512, .f32⟩ : BufTy).Contents (Elt F) → (⟨S8x512, .f32⟩ : BufTy).Contents (Elt F) → (⟨S8x512, .f32⟩ : BufTy).Contents (Elt F))
  , nullary main_cst_15 (constant S_ .f32 0x00000000#32)
  , binary main_v52 main_cst_15 main_v53 ((fun x v => Host.reduceAdd x v reducesTo_S8x512_S_d0_1 h_S_) : (⟨S8x512, .f32⟩ : BufTy).Contents (Elt F) → (⟨S_, .f32⟩ : BufTy).Contents (Elt F) → (⟨S_, .f32⟩ : BufTy).Contents (Elt F))
  , binary main_v53 main_v49 main_v54 (addf : (⟨S_, .f32⟩ : BufTy).Contents (Elt F) → (⟨S_, .f32⟩ : BufTy).Contents (Elt F) → (⟨S_, .f32⟩ : BufTy).Contents (Elt F)) ]

/-- The operations of this stretch touch arrays of the program only. -/
theorem subE : (opsE (F := F)).Forall fun op => op.bufs ⊆ tcRefs τ sig :=
  ⟨unary_bufs_sub .., nullary_bufs_sub .., unary_bufs_sub .., unary_bufs_sub .., binary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., binary_bufs_sub .., nullary_bufs_sub .., binary_bufs_sub .., binary_bufs_sub .., binary_bufs_sub .., binary_bufs_sub .., nullary_bufs_sub .., binary_bufs_sub .., binary_bufs_sub ..⟩

/-- They allocate nothing. -/
theorem freshE : ∀ op ∈ opsE (F := F), op.fresh = ∅ := by
  intro _ h; (repeat (cases h with | head => rfl | tail _ h => ?_)); exact nomatch h

/-- The arrays that stretch writes. -/
abbrev writesE : List (Ref sig .tc) :=
  [main_call4_v0, main_call4_v1, main_call4_v2, main_call4_v3, main_call4_v4, main_v29, main_v30, main_cst_7, main_v31, main_v32, main_cst_8, main_v33, main_cst_9, main_v34, main_v35, main_cst_10, main_v36, main_v37, main_cst_11, main_v38, main_v39, main_v40, main_cst_12, main_v41, main_v42, main_cst_13, main_v43, main_v44, main_v45, main_v46, main_v47, main_v48, main_cst_14, main_v49, main_v50, main_v51, main_v52, main_cst_15, main_v53, main_v54]

/-- They keep every array that they do not write. -/
theorem keptE {r : Ref sig .tc} (hr : r ∉ writesE) (V : Valuation τ sig (Elt F)) :
    after opsE V (Proc.devRef .tc r) = V (Proc.devRef .tc r) :=
  after_unwritten writesE rfl hr V

/-- The whole reference, as one list. -/
abbrev ops : List (HloOp τ sig (Elt F)) := opsA ++ (opsB ++ (opsC ++ (opsD ++ opsE)))

set_option maxHeartbeats 4000000 in
/-- The program is the five stretches in order. -/
theorem main_eq (c : Dev nD) : main (F := F) c = seq ops := rfl

/-- No array is scoped. -/
theorem scopedRefs_eq : (Finset.univ.filter fun b : Ref sig .tc => b.isScoped) = ∅ := by decide

/-- No semaphore is scoped. -/
theorem scopedSems_eq : (Finset.univ.filter fun sm : SemLoc sig => sm.isScoped .tc) = ∅ := by decide

/-- All operations touch arrays of the program only. -/
theorem ops_sub : (ops (F := F)).Forall fun op => op.bufs ⊆ tcRefs τ sig := by
  simp only [ops, List.forall_append]
  exact ⟨subA, subB, subC, subD, subE⟩

/-- No operation allocates. -/
theorem ops_fresh (op : HloOp τ sig (Elt F)) (h : op ∈ ops (F := F)) : op.fresh = ∅ := by
  simp only [ops, List.mem_append] at h
  rcases h with h | h | h | h | h
  · exact freshA op h
  · exact freshB op h
  · exact freshC op h
  · exact freshD op h
  · exact freshE op h

/-- Every run of the reference ends with each array at what the list leaves there, and with the counters at zero. -/
theorem ends (m : (ℓ : Loc nD τ sig) → Buf (Elt F) ℓ) (ρ : Dev nD → PrngReg) :
    θ_run defs (onTc (τ := τ) main) ⟨m, fun _ => 0, ρ⟩ fun r =>
      (∀ (d : Dev nD) (b : Ref sig .tc), r.2.mem ((d.tc : Thread nD τ).loc b)
        = after (ops (F := F)) (launchContents m d) (Proc.devRef .tc b)) ∧ r.2.sem = fun _ => 0 :=
  (θ_run defs _ _).2 (fun r h => ⟨h, sem_eq_zero_of_no_sems (by decide) r.2⟩)
    (run_seq scopedRefs_eq scopedSems_eq defs main (fun _ => ops) main_eq (fun _ => ops_sub) m ρ (fun _ => ops_fresh))

end Cert.ReferenceIdeal.Hand
-- ==== Proof.RefRead.lean ====
/- What the reference leaves in each result array, as a function of its three arguments. -/
module

public import proofs.«01_k».proof.Proof.RefRun

@[expose] public section

set_option maxRecDepth 16384

noncomputable section

namespace Cert.ReferenceIdeal.Hand

open Cert.ReferenceIdeal Cert.ReferenceIdeal.Gen Idealize.ShloMosaic Idealize.ShloMosaic.TcCoe Idealize.SL.Sem
open Idealize.ShloMosaic.StableHlo

variable {F : FTy → Type} [FloatOps F]

/-- The first stretch leaves the codebook. -/
theorem readA_codes (V : Valuation τ sig (Elt F)) :
    after opsA V (Proc.devRef .tc main_v3) = codes (V (Proc.devRef .tc main_arg1)) (V (Proc.devRef .tc main_arg2)) := by
  simp only [opsA, TRef.binary, TRef.unary, TRef.toBuf, TRef.ofBuf, cast_eq]
  after_results_simp <;> rfl

/-- The first stretch leaves the distances. -/
theorem readA_diffs (V : Valuation τ sig (Elt F)) :
    after opsA V (Proc.devRef .tc main_v17) = diffs (V (Proc.devRef .tc main_arg0))
      (codes (V (Proc.devRef .tc main_arg1)) (V (Proc.devRef .tc main_arg2))) := by
  simp only [opsA, TRef.binary, TRef.unary, TRef.toBuf, TRef.ofBuf, cast_eq]
  after_results_simp <;> rfl

/-- The second stretch leaves the indices, entry by entry. -/
theorem readB_z_at (V : Valuation τ sig (Elt F)) (j : S2x8x16x128.Idx) :
    after opsB V (Proc.devRef .tc main_v18) j = zOf (F := F) (V (Proc.devRef .tc main_v17)) j := by
  simp only [opsB, TRef.binary, TRef.nullary, TRef.unary, TRef.quaternary, TRef.toBuf, TRef.ofBuf, cast_eq]
  after_results_simp
  generalize (V (Proc.devRef .tc main_v17)) = d
  exact posAt_eq (F := F) _ _ _ _ _ _ _ _

/-- The second stretch leaves the indices. -/
theorem readB_z (V : Valuation τ sig (Elt F)) :
    after opsB V (Proc.devRef .tc main_v18) = zOf (F := F) (V (Proc.devRef .tc main_v17)) :=
  funext fun j => readB_z_at V j

/-- The second stretch leaves the errors. -/
theorem readB_err (V : Valuation τ sig (Elt F)) :
    after opsB V (Proc.devRef .tc main_v20) = errOf (F := F) (V (Proc.devRef .tc main_v17)) := by
  simp only [opsB, TRef.binary, TRef.nullary, TRef.unary, TRef.quaternary, TRef.toBuf, TRef.ofBuf, cast_eq]
  after_results_simp <;> rfl

/-- The third stretch leaves the quantised vectors. -/
theorem readC_hat (V : Valuation τ sig (Elt F)) :
    after opsC V (Proc.devRef .tc main_v25) = hatOf (F := F) (V (Proc.devRef .tc main_arg0))
      (takenOf (V (Proc.devRef .tc main_v3)) (wrapped (F := F) (V (Proc.devRef .tc main_v18)))) := by
  simp only [opsC, TRef.binary, TRef.nullary, TRef.unary, TRef.ternary, TRef.reshape, TRef.toBuf, TRef.ofBuf, cast_eq]
  after_results_simp <;> rfl

/-- The fourth stretch leaves the commitment loss. -/
theorem readD_commit (V : Valuation τ sig (Elt F)) :
    after opsD V (Proc.devRef .tc main_v28) = commitOf (F := F) (V (Proc.devRef .tc main_v20)) := by
  simp only [opsD]
  after_results_simp <;> rfl

/-- The fifth stretch leaves the codebook loss. -/
theorem readE_loss (V : Valuation τ sig (Elt F)) :
    after opsE V (Proc.devRef .tc main_v54) = lossOf (F := F)
      (V (Proc.devRef .tc main_arg1))
      (sumAvg (V (Proc.devRef .tc main_arg0)) (V (Proc.devRef .tc main_arg1))
        (hotOf (V (Proc.devRef .tc main_v18))))
      (V (Proc.devRef .tc main_arg2))
      (cntAvg (V (Proc.devRef .tc main_arg2)) (hotOf (V (Proc.devRef .tc main_v18)))) := by
  simp only [opsE, TRef.binary, TRef.nullary, TRef.unary, TRef.toBuf, TRef.ofBuf, cast_eq]
  after_results_simp <;> rfl

/-! ## The whole list -/

/-- An array no stretch writes keeps its contents. -/
theorem ops_kept {r : Ref sig .tc} (ha : r ∉ writesA) (hb : r ∉ writesB) (hc : r ∉ writesC) (hd : r ∉ writesD)
    (he : r ∉ writesE) (V : Valuation τ sig (Elt F)) :
    after (ops (F := F)) V (Proc.devRef .tc r) = V (Proc.devRef .tc r) := by
  simp only [ops, after_append]
  rw [keptE he, keptD hd, keptC hc, keptB hb, keptA ha]

/-- The distances of the whole program. -/
abbrev dAll (a0 : FVec F S2x8x16x128x64 .f32) (a1 : FVec F S8x512x64 .f32) (a2 : FVec F S8x512 .f32) :
    FVec F S2x8x16x128x512 .f32 := diffs a0 (codes a1 a2)

/-- The reference leaves the quantised vectors. -/
theorem ops_hat (V : Valuation τ sig (Elt F)) :
    after (ops (F := F)) V (Proc.devRef .tc main_v25) = hatOf (F := F) (V (Proc.devRef .tc main_arg0))
      (takenOf (codes (V (Proc.devRef .tc main_arg1)) (V (Proc.devRef .tc main_arg2)))
        (wrapped (F := F) (zOf (F := F) (dAll (V (Proc.devRef .tc main_arg0)) (V (Proc.devRef .tc main_arg1))
          (V (Proc.devRef .tc main_arg2)))))) := by
  simp only [ops, after_append]
  rw [keptE (by decide), keptD (by decide), readC_hat, readB_z, readA_diffs, keptB (by decide), keptA (by decide),
    keptB (r := main_v3) (by decide), readA_codes]

/-- The reference leaves the indices. -/
theorem ops_z (V : Valuation τ sig (Elt F)) :
    after (ops (F := F)) V (Proc.devRef .tc main_v18) = zOf (F := F) (dAll (V (Proc.devRef .tc main_arg0))
      (V (Proc.devRef .tc main_arg1)) (V (Proc.devRef .tc main_arg2))) := by
  simp only [ops, after_append]
  rw [keptE (by decide), keptD (by decide), keptC (by decide), readB_z, readA_diffs]

/-- The reference leaves the errors. -/
theorem ops_err (V : Valuation τ sig (Elt F)) :
    after (ops (F := F)) V (Proc.devRef .tc main_v20) = errOf (F := F) (dAll (V (Proc.devRef .tc main_arg0))
      (V (Proc.devRef .tc main_arg1)) (V (Proc.devRef .tc main_arg2))) := by
  simp only [ops, after_append]
  rw [keptE (by decide), keptD (by decide), keptC (by decide), readB_err, readA_diffs]

/-- The reference leaves the commitment loss. -/
theorem ops_commit (V : Valuation τ sig (Elt F)) :
    after (ops (F := F)) V (Proc.devRef .tc main_v28) = commitOf (F := F) (errOf (dAll (V (Proc.devRef .tc main_arg0))
      (V (Proc.devRef .tc main_arg1)) (V (Proc.devRef .tc main_arg2)))) := by
  simp only [ops, after_append]
  rw [keptE (by decide), readD_commit, keptC (by decide), readB_err, readA_diffs]

/-- The reference leaves the codebook loss, for some moving averages of sums and counts. -/
theorem ops_loss (V : Valuation τ sig (Elt F)) :
    ∃ (s : FVec F S8x512x64 .f32) (n : FVec F S8x512 .f32),
    after (ops (F := F)) V (Proc.devRef .tc main_v54) = lossOf (F := F) (V (Proc.devRef .tc main_arg1)) s
      (V (Proc.devRef .tc main_arg2)) n := by
  simp only [ops, after_append]
  rw [readE_loss]
  have h (r : Ref sig .tc) (ha : r ∉ writesA) (hb : r ∉ writesB) (hc : r ∉ writesC) (hd : r ∉ writesD) :
      after opsD (after opsC (after opsB (after opsA V))) (Proc.devRef .tc r) = V (Proc.devRef .tc r) := by
    rw [keptD hd, keptC hc, keptB hb, keptA ha]
  rw [h main_arg1 (by decide) (by decide) (by decide) (by decide),
    h main_arg2 (by decide) (by decide) (by decide) (by decide)]
  exact ⟨_, _, rfl⟩

end Cert.ReferenceIdeal.Hand
-- ==== Proof.RefAt.lean ====
/- The reference's arrays read at an index, on the extended reals: codewords, distances, least distance, its position. -/
module

public import proofs.«01_k».proof.Proof.Least
public import Idealize.ShloMosaic.Lib.Pipeline.Value
public import Idealize.ShloMosaic.Lib.ValueIdxCore
public import Idealize.ShloMosaic.Lib.IdealHost

@[expose] public section

set_option maxRecDepth 16384

noncomputable section

namespace Cert.ReferenceIdeal.Hand

open Cert.ReferenceIdeal Cert.ReferenceIdeal.Gen Idealize.ShloMosaic Idealize.ShloMosaic.TcCoe
open Idealize.ShloMosaic.ValueIdx Cert.Least
open scoped BigOperators

/-- The least count a codeword is divided by. -/
def eps : EReal := Ideal.ofBits .f32 0x3C23D70A#32

/-- One coordinate of a codeword: its sum over its count, the count at least `eps`. -/
def word (a1 : FVec Ideal S8x512x64 .f32) (a2 : FVec Ideal S8x512 .f32) (h : Fin 8) (s : Fin 512) (k : Fin 64) : EReal :=
  Ideal.div (a1 (ix3 h s k)) (max eps (a2 (ix2 h s)))

/-- An entry of the codebook. -/
theorem codes_at (a1 : FVec Ideal S8x512x64 .f32) (a2 : FVec Ideal S8x512 .f32) (h : Fin 8) (s : Fin 512) (k : Fin 64) :
    codes a1 a2 (ix3 h s k) = word a1 a2 h s k := by
  unfold codes word
  rw [hostDivf_apply, broadcastInDim_apply _ _ _ (ix3 h s k) (ix3 h s (0 : Fin 1)) (by intro a; fin_cases a <;> rfl)]
  refine congrArg (Ideal.div _) ?_
  refine congrArg₂ max ?_ ?_
  · rw [broadcastInDim_apply _ _ _ _ ix0 (fun a => a.elim0)]; rfl
  · rw [broadcastInDim_apply _ _ _ _ (ix2 h s) (by intro a; fin_cases a <;> rfl)]

/-- The squared length of a vector. -/
theorem vecSq_at (a0 : FVec Ideal S2x8x16x128x64 .f32) (b : Fin 2) (h : Fin 8) (r : Fin 16) (c : Fin 128) :
    vecSq a0 (ix4 b h r c) = ∑ k : Fin 64, a0 (ix5 b h r c k) * a0 (ix5 b h r c k) := by
  unfold vecSq
  rw [hostReduceAdd_apply, Ideal.hostReduceAdd_single _ (by decide : S2x8x16x128x64.Reduces [4] S2x8x16x128)]
  refine (congrArg₂ (· + ·) Ideal.ofBits_zero_f32 ?_).trans (zero_add _)
  refine Finset.sum_congr rfl fun k _ => ?_
  refine (mulf_apply _ _ _).trans ?_
  have e : (by decide : S2x8x16x128x64.Reduces [4] S2x8x16x128).lift (ix4 b h r c) k = ix5 b h r c k := by
    funext a; fin_cases a <;> rfl
  rw [e]; rfl

/-- The squared length of a codeword. -/
theorem codeSq_at (cw : FVec Ideal S8x512x64 .f32) (h : Fin 8) (s : Fin 512) :
    codeSq cw (ix2 h s) = ∑ k : Fin 64, cw (ix3 h s k) * cw (ix3 h s k) := by
  unfold codeSq
  rw [hostReduceAdd_apply, Ideal.hostReduceAdd_single _ (by decide : S8x512x64.Reduces [2] S8x512)]
  refine (congrArg₂ (· + ·) Ideal.ofBits_zero_f32 ?_).trans (zero_add _)
  refine Finset.sum_congr rfl fun k _ => ?_
  refine (mulf_apply _ _ _).trans ?_
  have e : (by decide : S8x512x64.Reduces [2] S8x512).lift (ix2 h s) k = ix3 h s k := by
    funext a; fin_cases a <;> rfl
  rw [e]; rfl

/-- The product of a codeword and a vector. -/
theorem cross_at (a0 : FVec Ideal S2x8x16x128x64 .f32) (cw : FVec Ideal S8x512x64 .f32)
    (b : Fin 2) (h : Fin 8) (r : Fin 16) (c : Fin 128) (s : Fin 512) :
    cross a0 cw (ix5 h s b r c) = ∑ k : Fin 64, cw (ix3 h s k) * a0 (ix5 b h r c k) := by
  unfold cross
  simp only [Host.dotGeneral]
  rw [Ideal.dotGeneral_apply, ← Equiv.sum_comp (contrEquiv1 _ 64 rfl rfl).symm]
  refine Finset.sum_congr rfl fun k _ => ?_
  refine congrArg₂ (· * ·) (congrArg cw ?_) (congrArg a0 ?_)
  · funext a; fin_cases a <;> rfl
  · funext a; fin_cases a <;> rfl

/-- The squared distance of one vector to one codeword. -/
def gap (a0 : FVec Ideal S2x8x16x128x64 .f32) (cw : FVec Ideal S8x512x64 .f32)
    (b : Fin 2) (h : Fin 8) (r : Fin 16) (c : Fin 128) (s : Fin 512) : EReal :=
  (∑ k : Fin 64, a0 (ix5 b h r c k) * a0 (ix5 b h r c k))
    - Ideal.ofBits .f32 0x40000000#32 * (∑ k : Fin 64, cw (ix3 h s k) * a0 (ix5 b h r c k))
    + ∑ k : Fin 64, cw (ix3 h s k) * cw (ix3 h s k)

/-- An entry of the distances. -/
theorem diffs_at (a0 : FVec Ideal S2x8x16x128x64 .f32) (cw : FVec Ideal S8x512x64 .f32)
    (b : Fin 2) (h : Fin 8) (r : Fin 16) (c : Fin 128) (s : Fin 512) :
    diffs a0 cw (ix5 b h r c s) = gap a0 cw b h r c s := by
  unfold diffs gap
  rw [addf_apply, subf_apply, mulf_apply]
  refine congrArg₂ (· + ·) (congrArg₂ (· - ·) ?_ (congrArg₂ (· * ·) ?_ ?_)) ?_
  · rw [broadcastInDim_apply _ _ _ _ (ix5 b h r c (0 : Fin 1)) (by intro a; fin_cases a <;> rfl),
      broadcastInDim_apply _ _ _ _ (ix4 b h r c) (by intro a; fin_cases a <;> rfl), vecSq_at]
  · rw [broadcastInDim_apply _ _ _ _ ix0 (fun a => a.elim0)]; rfl
  · rw [transpose_apply _ _ _ _ (ix5 h s b r c) (by intro a; fin_cases a <;> rfl), cross_at]
  · rw [broadcastInDim_apply _ _ _ _ (ix5 (0 : Fin 1) h (0 : Fin 1) (0 : Fin 1) s) (by intro a; fin_cases a <;> rfl),
      broadcastInDim_apply _ _ _ _ (ix2 h s) (by intro a; fin_cases a <;> rfl), codeSq_at]

/-- The word of infinity is the top. -/
theorem ofBits_inf : Ideal.ofBits .f32 0x7F800000#32 = ⊤ := by simp [Ideal.ofBits, Ideal.ieee]

/-- Each distance to a vector, by codeword. -/
abbrev row (d : FVec Ideal S2x8x16x128x512 .f32) (b : Fin 2) (h : Fin 8) (r : Fin 16) (c : Fin 128) : Fin 512 → EReal :=
  fun s => d (ix5 b h r c s)

/-- The arg-min over one axis of 512 entries, its position array that axis's coordinate, is the first least position. -/
theorem argReduce_first {s t u : Shape} {a : Fin s.rank} {axes : List (Fin s.rank)} (h' : s.ReducesTo axes t)
    (hax : axes = [a]) (hR : s.Reduces [a] t)
    (hs : s.size a = 512) (hu : 0 < u.numel) (x : FVec Ideal s .f32) (y : IVec s 32)
    (hy : ∀ i, y i = BitVec.ofNat 32 (i a).val) (ix : FVec Ideal u .f32) (iy : IVec u 32)
    (hx : ix (Shape.Idx.first hu) = (⊤ : EReal)) (hi : iy (Shape.Idx.first hu) = 0#32) (j : t.Idx) :
    posAt (F := Ideal) reducer_argmin_f32_i32 x y ix iy h' hu j
      = BitVec.ofNat 32 (first fun k => x (hR.lift j (k.cast hs.symm))).val := by
  subst hax
  unfold posAt
  rw [Ideal.argReduce_eq_reduce2, Host.reduce2_eq_foldl_fiber]
  refine (congrArg (fun e => ((Host.argReduceFiber x y h' j).foldl (reducer_argmin_f32_i32 (F := Ideal)) e).2)
    (Prod.ext hx hi : (ix (Shape.Idx.first hu), iy (Shape.Idx.first hu)) = ((⊤ : EReal), 0#32))).trans ?_
  refine foldl_first _ _ fun p => ?_
  unfold Host.argReduceFiber
  simp only [List.mem_map, List.mem_filter, List.mem_finRange, true_and, decide_eq_true_eq]
  constructor
  · rintro ⟨n, hn, rfl⟩
    refine ⟨((s.rowMajor.symm n) a).cast hs, ?_⟩
    have e : hR.lift j ((((s.rowMajor.symm n) a).cast hs).cast hs.symm) = s.rowMajor.symm n := by
      rw [← hn]; exact hR.lift_drop _
    rw [e, hy]; rfl
  · rintro ⟨k, rfl⟩
    refine ⟨s.rowMajor (hR.lift j (k.cast hs.symm)), ?_, ?_⟩
    · rw [Equiv.symm_apply_apply]; exact hR.drop_lift _ _
    · rw [Equiv.symm_apply_apply, hy]
      refine congrArg (fun v => (x (hR.lift j (k.cast hs.symm)), BitVec.ofNat 32 v)) ?_
      simp [Shape.Reduces.lift_val, Shape.Reduces.liftVal]

/-- The minimum over one axis of 512 entries is the value at the first least position. -/
theorem reduce_min_first {s t u : Shape} {a : Fin s.rank} (h' : s.ReducesTo [a] t) (hR : s.Reduces [a] t)
    (hs : s.size a = 512) (hu : 0 < u.numel) (x : FVec Ideal s .f32) (ix : u.Idx → EReal)
    (hx : ix (Shape.Idx.first hu) = ⊤) (j : t.Idx) (f : Fin 512 → EReal)
    (hf : ∀ k : Fin 512, x (hR.lift j (k.cast hs.symm)) = f k) :
    Host.reduce (FloatOps.minimumf (F := Ideal) (φ := .f32)) x ix h' hu j = f (first f) := by
  rw [Host.reduce_eq_fold, Shape.ReducesTo.drop_eq_drop h' hR]
  classical
  refine (hR.fold_filter_drop_single _ _ x j).trans ?_
  refine (congrArg (fun e => (Finset.univ : Finset (Fin (s.size a))).fold min e (x ∘ hR.lift j)) hx).trans ?_
  rw [← fold_min_first f]
  apply le_antisymm
  · rw [Finset.le_fold_min]
    exact ⟨le_top, fun k _ => (Finset.fold_min_le _).mpr (Or.inr ⟨k.cast hs.symm, Finset.mem_univ _, (hf k).le⟩)⟩
  · rw [Finset.le_fold_min]
    exact ⟨le_top, fun k _ => (Finset.fold_min_le _).mpr (Or.inr ⟨k.cast hs, Finset.mem_univ _, (hf (k.cast hs)).ge⟩)⟩

/-- The distances are reduced along the last axis. -/
theorem reduces_last : S2x8x16x128x512.Reduces [4] S2x8x16x128 := by decide

/-- The index under a reduced one, at a codeword. -/
theorem lift_last (b : Fin 2) (h : Fin 8) (r : Fin 16) (c : Fin 128) (s : Fin 512) :
    reduces_last.lift (ix4 b h r c) s = ix5 b h r c s := by
  funext a; fin_cases a <;> rfl

/-- The index found for a vector is the first least position of its distances. -/
theorem zOf_at (d : FVec Ideal S2x8x16x128x512 .f32) (b : Fin 2) (h : Fin 8) (r : Fin 16) (c : Fin 128) :
    zOf d (ix4 b h r c) = BitVec.ofNat 32 (first (row d b h r c)).val := by
  have e : (fun k : Fin 512 => d (reduces_last.lift (ix4 b h r c) (k.cast rfl))) = row d b h r c :=
    funext fun s => congrArg d (lift_last b h r c s)
  exact (argReduce_first reducesTo_S2x8x16x128x512_S2x8x16x128_d4 rfl reduces_last rfl h_S_ d (iotaInDim S2x8x16x128x512 32 4)
    (fun i => iotaInDim_apply _ _ _) (constant S_ .f32 0x7F800000#32) (constantI S_ 32 0#32) ofBits_inf rfl
    (ix4 b h r c)).trans (congrArg (fun f => BitVec.ofNat 32 (first f).val) e)

/-- The error of a vector is its least distance, clipped below at zero. -/
theorem errOf_at (d : FVec Ideal S2x8x16x128x512 .f32) (b : Fin 2) (h : Fin 8) (r : Fin 16) (c : Fin 128) :
    errOf d (ix4 b h r c) = max (row d b h r c (first (row d b h r c))) 0 := by
  unfold errOf
  refine (maximumf_apply _ _ _).trans ?_
  refine congrArg₂ max ?_ ?_
  · exact reduce_min_first _ reduces_last rfl _ d _ ofBits_inf _ (row d b h r c)
      (fun s => congrArg d (lift_last b h r c s))
  · rw [broadcastInDim_apply _ _ _ _ ix0 (fun a => a.elim0)]; exact Ideal.ofBits_zero_f32

end Cert.ReferenceIdeal.Hand
-- ==== Proof.RefTake.lean ====
/- The reference's chosen codewords, commitment loss and codebook loss, on the extended reals. -/
module

public import proofs.«01_k».proof.Proof.RefAt
public import Idealize.ShloMosaic.Lib.ReduceAll
public import Idealize.ShloMosaic.Lib.ValueLayoutCasts

@[expose] public section

set_option maxRecDepth 16384

noncomputable section

namespace Cert.ReferenceIdeal.Hand

open Cert.ReferenceIdeal Cert.ReferenceIdeal.Gen Idealize.ShloMosaic Idealize.ShloMosaic.TcCoe
open Idealize.ShloMosaic.ValueIdx Cert.Least
open scoped BigOperators

/-- One position per vector. -/
abbrev Picks := Fin 2 → Fin 8 → Fin 16 → Fin 128 → Fin 512

/-- An index in range is not moved by the wrapping of negative ones. -/
theorem wrapped_at (z : Vec Ideal S2x8x16x128 .i32) (b : Fin 2) (h : Fin 8) (r : Fin 16) (c : Fin 128) (q : Fin 512)
    (hz : z (ix4 b h r c) = BitVec.ofNat 32 q.val) :
    wrapped (F := Ideal) z (ix5 b h r c (0 : Fin 1)) = BitVec.ofNat 32 q.val := by
  have hb : broadcastInDim S2x8x16x128x1 ![0, 1, 2, 3] bcast_S2x8x16x128_S2x8x16x128x1_0_1_2_3 z (ix5 b h r c (0 : Fin 1))
      = BitVec.ofNat 32 q.val :=
    (broadcastInDim_apply _ _ _ _ (ix4 b h r c) (by intro a; fin_cases a <;> rfl)).trans hz
  have h0 : broadcastInDim S2x8x16x128x1 ![] bcast_S_S2x8x16x128x1 (constantI S_ 32 0#32) (ix5 b h r c (0 : Fin 1)) = 0#32 :=
    broadcastInDim_apply _ _ _ _ ix0 (fun a => a.elim0)
  unfold wrapped
  rw [select_apply]
  have hc : cmpi .slt (broadcastInDim S2x8x16x128x1 ![0, 1, 2, 3] bcast_S2x8x16x128_S2x8x16x128x1_0_1_2_3 z)
      (broadcastInDim S2x8x16x128x1 ![] bcast_S_S2x8x16x128x1 (constantI S_ 32 0#32)) (ix5 b h r c (0 : Fin 1)) = 0#1 := by
    show IntOp.cmpi .slt _ _ = _
    rw [hb, h0]
    have := toInt_pos q
    have h4 : ¬ ((q.val : ℤ) < 0) := by omega
    simp only [IntOp.cmpi, BitVec.slt, this]
    rw [show (0#32 : BitVec 32).toInt = 0 from rfl, decide_eq_false h4]
    rfl
  rw [hc, select_zero, hb]

/-- Every index in range passes the test of bounds. -/
theorem inside_at (w : Vec Ideal S2x8x16x128x1 .i32) (q : Picks)
    (hw : ∀ b h r c, w (ix5 b h r c (0 : Fin 1)) = BitVec.ofNat 32 (q b h r c).val) (j : S2x8x16x128.Idx) :
    inside (F := Ideal) w j = 1#1 := by
  unfold inside
  refine Host.reduce_andi_one _ _ _ _ _ rfl fun i => ?_
  have hi : i = ix5 (i 0) (i 1) (i 2) (i 3) (0 : Fin 1) := by
    rw [eq_ix5 i]
    exact congrArg (ix5 (i 0) (i 1) (i 2) (i 3)) (Subsingleton.elim (α := Fin 1) _ _)
  have hv := hw (i 0) (i 1) (i 2) (i 3)
  have hv' : w i = BitVec.ofNat 32 (q (i 0) (i 1) (i 2) (i 3)).val := (congrArg w hi).trans hv
  have h0 : broadcastInDim S2x8x16x128x1 ![] bcast_S_S2x8x16x128x1 (constantI S_ 32 0#32) i = 0#32 :=
    broadcastInDim_apply _ _ _ _ ix0 (fun a => a.elim0)
  have h511 : broadcastInDim S2x8x16x128x1 ![0, 1, 2, 3, 4] bcast_S1x1x1x1x1_S2x8x16x128x1_0_1_2_3_4
      (broadcastInDim S1x1x1x1x1 ![4] bcast_S1_S1x1x1x1x1_4 (constantI S1 32 511#32)) i = 511#32 := by
    rw [broadcastInDim_apply _ _ _ _ (ix5 (0 : Fin 1) (0 : Fin 1) (0 : Fin 1) (0 : Fin 1) (0 : Fin 1)) (by
      intro a; fin_cases a <;> rfl)]
    exact broadcastInDim_apply _ _ _ _ (ix1 (0 : Fin 1)) (by intro a; fin_cases a; rfl)
  have ht := toInt_pos (q (i 0) (i 1) (i 2) (i 3))
  have hl := (q (i 0) (i 1) (i 2) (i 3)).isLt
  have e : IntOp.andi (IntOp.cmpi .sge (w i) 0#32) (IntOp.cmpi .sle (w i) 511#32) = 1#1 := by
    rw [hv']
    have h1 : (511#32 : BitVec 32).toInt = 511 := rfl
    have h2 : (0#32 : BitVec 32).toInt = 0 := rfl
    simp only [IntOp.cmpi, BitVec.sle, ht, h1, h2, IntOp.andi]
    have h3 : ((q (i 0) (i 1) (i 2) (i 3)).val : ℤ) ≤ 511 := by exact_mod_cast Nat.le_of_lt_succ hl
    have h4 : (0 : ℤ) ≤ ((q (i 0) (i 1) (i 2) (i 3)).val : ℤ) := Int.natCast_nonneg _
    simp [h3, h4]
  exact (congrArg₂ (fun x y => IntOp.andi (IntOp.cmpi .sge (w i) x) (IntOp.cmpi .sle (w i) y)) h0 h511).trans e

/-- The gather of one codeword per vector, read at an index. -/
theorem gather_at {α : Type} (x : S8x512x64.Idx → α) (w : IVec S2x8x16x128x1 32) (b : Fin 2) (h : Fin 8) (r : Fin 16) (c : Fin 128)
    (k : Fin 64) (q : Fin 512) (hw : w (ix5 b h r c (0 : Fin 1)) = BitVec.ofNat 32 q.val) :
    Host.gather gather_S8x512x64_S2x8x16x128x1_S2x8x16x128x64_4_1_0_1_1_4_1164 x w (ix5 b h r c k) = x (ix3 h q k) := by
  unfold Host.gather
  refine congrArg x ?_
  funext a
  refine Fin.ext ?_
  show GatherDims.start _ (ix5 b h r c k) w a + GatherDims.batchCoord _ (ix5 b h r c k) a
      + GatherDims.offCoord _ (ix5 b h r c k) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (by decide)]
    rfl
  · rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (by decide)]
    have hsi : GatherDims.siIdx gather_S8x512x64_S2x8x16x128x1_S2x8x16x128x64_4_1_0_1_1_4_1164 (ix5 b h r c k)
        ⟨List.idxOf (1 : Fin 3) gather_S8x512x64_S2x8x16x128x1_S2x8x16x128x64_4_1_0_1_1_4_1164.startIndexMap,
          List.idxOf_lt_length_iff.2 (List.mem_singleton.mpr rfl)⟩ = ix5 b h r c (0 : Fin 1) := by
      funext a; refine Fin.ext ?_
      match a with
      | ⟨0, _⟩ => rfl
      | ⟨1, _⟩ => rfl
      | ⟨2, _⟩ => rfl
      | ⟨3, _⟩ => rfl
      | ⟨4, _⟩ => rfl
    refine (congrArg (fun v : BitVec 32 => min v.toInt.toNat (512 - 1)) ((congrArg w hsi).trans hw)).trans ?_
    have hq := q.isLt
    rw [toInt_pos]
    show min (Int.toNat (q.val : ℤ)) (512 - 1) = q.val
    omega
  · rw [GatherDims.batchCoord_eq_zero _ _ _ (by decide)]
    unfold GatherDims.start GatherDims.offCoord
    rw [dif_neg (by decide), dif_pos (by decide)]
    simp only [Nat.zero_add]
    rfl

/-- The codeword taken for a vector is the one of its index. -/
theorem takenOf_at (cw : FVec Ideal S8x512x64 .f32) (w : Vec Ideal S2x8x16x128x1 .i32) (q : Picks)
    (hw : ∀ b h r c, w (ix5 b h r c (0 : Fin 1)) = BitVec.ofNat 32 (q b h r c).val)
    (b : Fin 2) (h : Fin 8) (r : Fin 16) (c : Fin 128) (k : Fin 64) :
    takenOf cw w (ix5 b h r c k) = cw (ix3 h (q b h r c) k) := by
  unfold takenOf
  rw [select_apply, broadcastInDim_apply _ _ (inside (F := Ideal) w) _ (ix4 b h r c) (by intro a; fin_cases a <;> rfl),
    inside_at w q hw, select_one, gather_at _ _ b h r c k (q b h r c) (hw b h r c)]
  refine (shapeCast_apply _ _ _ (ix5 (0 : Fin 1) h (0 : Fin 1) (q b h r c) k) ?_).trans ?_
  · rw [Shape.rowMajor_val_five, Shape.rowMajor_val_three]
    show ((((0 * 8 + h.val) * 1 + 0) * 512 + (q b h r c).val) * 64 + k.val) = _
    show _ = (h.val * 512 + (q b h r c).val) * 64 + k.val
    omega
  · exact broadcastInDim_apply _ _ _ _ (ix3 h (q b h r c) k) (by intro a; fin_cases a <;> rfl)

end Cert.ReferenceIdeal.Hand
-- ==== Proof.RefLoss.lean ====
/- The reference's quantised vectors and its two losses, on the extended reals. -/
module

public import proofs.«01_k».proof.Proof.RefTake

@[expose] public section

set_option maxRecDepth 16384

noncomputable section

namespace Cert.ReferenceIdeal.Hand

open Cert.ReferenceIdeal Cert.ReferenceIdeal.Gen Idealize.ShloMosaic Idealize.ShloMosaic.TcCoe
open Idealize.ShloMosaic.ValueIdx Cert.Least
open scoped BigOperators

/-- A real less itself is zero. -/
theorem sub_self_real (x : EReal) (hx : ∃ r : ℝ, x = r) : x - x = 0 := by
  obtain ⟨r, rfl⟩ := hx
  rw [← EReal.coe_sub, _root_.sub_self]; rfl

/-- With real vectors the quantised vectors are the codewords taken. -/
theorem hatOf_at (a0 taken : FVec Ideal S2x8x16x128x64 .f32) (h0 : ∀ i, ∃ r : ℝ, a0 i = (r : EReal)) (i : S2x8x16x128x64.Idx) :
    hatOf a0 taken i = taken i := by
  unfold hatOf
  rw [addf_apply, subf_apply]
  refine (congrArg (taken i + ·) (sub_self_real (a0 i) (h0 i))).trans (add_zero _)

/-- The errors summed over the heads. -/
theorem overHeads_at (e : FVec Ideal S2x8x16x128 .f32) (b : Fin 2) (r : Fin 16) (c : Fin 128) :
    overHeads e (ix3 b r c) = ∑ h : Fin 8, e (ix4 b h r c) := by
  unfold overHeads
  rw [hostReduceAdd_apply, Ideal.hostReduceAdd_single _ (by decide : S2x8x16x128.Reduces [1] S2x16x128)]
  refine (congrArg₂ (· + ·) Ideal.ofBits_zero_f32 ?_).trans (zero_add _)
  refine Finset.sum_congr rfl fun h _ => ?_
  refine congrArg e ?_
  funext a; fin_cases a <;> rfl

/-- The commitment loss: the errors' sum over every vector, heads innermost, over the number of vectors of a head. -/
theorem commitOf_at (e : FVec Ideal S2x8x16x128 .f32) (j : S_.Idx) :
    commitOf e j = Ideal.div (∑ i : S2x16x128.Idx, ∑ h : Fin 8, e (ix4 (i 0) h (i 1) (i 2))) (Ideal.ofBits .f32 0x45800000#32) := by
  unfold commitOf
  rw [hostDivf_apply]
  refine congrArg₂ Ideal.div ?_ rfl
  rw [hostReduceAdd_apply, Ideal.hostReduceAdd_total _ (fun b => b.elim0)]
  refine (congrArg₂ (· + ·) Ideal.ofBits_zero_f32 ?_).trans (zero_add _)
  refine Finset.sum_congr rfl fun i _ => ?_
  exact (congrArg (overHeads e) (eq_ix3 i)).trans (overHeads_at e (i 0) (i 1) (i 2))

/-- With real codeword sums and counts the codebook loss is zero, whatever the averages. -/
theorem lossOf_at (a1 s : FVec Ideal S8x512x64 .f32) (a2 n : FVec Ideal S8x512 .f32)
    (h1 : ∀ i, ∃ r : ℝ, a1 i = (r : EReal)) (h2 : ∀ i, ∃ r : ℝ, a2 i = (r : EReal)) (j : S_.Idx) :
    lossOf a1 s a2 n j = (0 : EReal) := by
  unfold lossOf
  rw [addf_apply, hostReduceAdd_apply, hostReduceAdd_apply, Ideal.hostReduceAdd_total _ (fun b => b.elim0), Ideal.hostReduceAdd_total _ (fun b => b.elim0)]
  have e2 : ∑ i : S8x512.Idx, mulf (subf a2 n) (subf a2 a2) i = (0 : EReal) := by
    refine Finset.sum_eq_zero fun i _ => ?_
    rw [mulf_apply, subf_apply _ _ i, subf_apply _ _ i]
    exact (congrArg ((a2 i - n i) * ·) (sub_self_real (a2 i) (h2 i))).trans (mul_zero _)
  have e1 : ∑ i : S8x512x64.Idx, mulf (subf a1 s) (subf a1 a1) i = (0 : EReal) := by
    refine Finset.sum_eq_zero fun i _ => ?_
    rw [mulf_apply, subf_apply _ _ i, subf_apply _ _ i]
    exact (congrArg ((a1 i - s i) * ·) (sub_self_real (a1 i) (h1 i))).trans (mul_zero _)
  have z := Ideal.ofBits_zero_f32
  refine (congrArg₂ (· + ·) ((congrArg₂ (· + ·) z e2).trans (zero_add _)) ((congrArg₂ (· + ·) z e1).trans (zero_add _))).trans (zero_add _)

end Cert.ReferenceIdeal.Hand
-- ==== Proof.Distance.lean ====
/- The two ways of writing a squared distance agree over the reals. -/
module

public import proofs.«01_k».proof.Proof.RefLoss

@[expose] public section

noncomputable section

namespace Cert.Distance

open Idealize.ShloMosaic
open scoped BigOperators

/-- A finite sum of reals, as extended reals, is the real sum. -/
theorem sum_real {ι : Type} (s : Finset ι) (f : ι → ℝ) : ∑ k ∈ s, ((f k : ℝ) : EReal) = ((∑ k ∈ s, f k : ℝ) : EReal) := by
  classical
  induction s using Finset.induction_on with
  | empty => rfl
  | insert a s ha ih => rw [Finset.sum_insert ha, Finset.sum_insert ha, ih, ← EReal.coe_add]

/-- The word of 2 is 2. -/
theorem two_bits : Ideal.ofBits .f32 0x40000000#32 = ((2 : ℝ) : EReal) := by
  simp [Ideal.ofBits, Ideal.ieee]
  rw [← EReal.coe_mul]
  norm_num

/-- The word of -2 is -2. -/
theorem negTwo_bits : Ideal.ofBits .f32 0xC0000000#32 = ((-2 : ℝ) : EReal) := by
  simp [Ideal.ofBits, Ideal.ieee]
  rw [← EReal.coe_mul]
  norm_num

/-- Adding the product with the codeword scaled by minus two is taking away twice the product. -/
theorem dist_eq (v w : Fin 64 → EReal) (hv : ∀ k, ∃ r : ℝ, v k = (r : EReal)) (hw : ∀ k, ∃ r : ℝ, w k = (r : EReal)) :
    ((∑ k, v k * v k) + ∑ k, (Ideal.ofBits .f32 0xC0000000#32 * w k) * v k) + ∑ k, w k * w k
      = (∑ k, v k * v k) - Ideal.ofBits .f32 0x40000000#32 * (∑ k, w k * v k) + ∑ k, w k * w k := by
  choose a ha using hv
  choose b hb using hw
  have ev : v = fun k => ((a k : ℝ) : EReal) := funext ha
  have ew : w = fun k => ((b k : ℝ) : EReal) := funext hb
  subst ev ew
  rw [two_bits, negTwo_bits]
  simp only [← EReal.coe_mul, sum_real, ← EReal.coe_add, ← EReal.coe_sub]
  refine congrArg _ ?_
  have e : ∑ k, -2 * b k * a k = -(2 * ∑ k, b k * a k) := by
    rw [Finset.mul_sum, ← Finset.sum_neg_distrib]
    exact Finset.sum_congr rfl fun k _ => by ring
  rw [e]; ring

/-- The floor of the counts is a positive real. -/
theorem eps_pos : ∃ r : ℝ, 0 < r ∧ Ideal.ofBits .f32 0x3C23D70A#32 = (r : EReal) := by
  refine ⟨10737418 * (2 ^ 30)⁻¹, by norm_num, ?_⟩
  rw [EReal.coe_mul]
  simp [Ideal.ofBits, Ideal.ieee]

/-- A real over a real count, the count at least the least one, is real. -/
theorem div_real (x y : EReal) (hx : ∃ r : ℝ, x = (r : EReal)) (hy : ∃ r : ℝ, y = (r : EReal)) :
    ∃ r : ℝ, Ideal.div x (max (Ideal.ofBits .f32 0x3C23D70A#32) y) = (r : EReal) := by
  obtain ⟨a, rfl⟩ := hx
  obtain ⟨b, rfl⟩ := hy
  obtain ⟨e, he, h⟩ := eps_pos
  rw [h]
  have hm : max (e : EReal) (b : EReal) = ((max e b : ℝ) : EReal) := (EReal.coe_strictMono.monotone.map_max (a := e) (b := b)).symm
  have hp : 0 < max e b := lt_of_lt_of_le he (le_max_left _ _)
  rw [hm]
  refine ⟨a * (max e b)⁻¹, ?_⟩
  unfold Ideal.div
  rw [if_neg (by intro h0; exact hp.ne' (EReal.coe_injective h0)), EReal.coe_mul, EReal.coe_inv]

end Cert.Distance
-- ==== Proof.Agree.lean ====
/- With real arguments the kernel's arrays are the reference's. -/
module

public import proofs.«01_k».proof.Proof.KerRun
public import proofs.«01_k».proof.Proof.RefRead
public import proofs.«01_k».proof.Proof.Distance

@[expose] public section

set_option maxRecDepth 16384

noncomputable section

namespace Cert.Agree

open Idealize.ShloMosaic Idealize.ShloMosaic.TcCoe Idealize.ShloMosaic.ValueIdx Cert.Least
open Cert.KernelIdeal.Hand (vt cc hd0 hd1 hd2 at3 bgap bword bnear berr kHat kCommit arr3 arr4 arr5 headSum out3_at out4_at out5_at cols_at)
open Cert.ReferenceIdeal.Hand (codes word gap diffs dAll row zOf errOf wrapped takenOf hatOf commitOf lossOf)
open Cert.ReferenceIdeal (S2x8x16x128x64 S8x512x64 S8x512 S2x8x16x128 S_ S2x16x128)
open scoped BigOperators

variable (a0 : FVec Ideal S2x8x16x128x64 .f32) (a1 : FVec Ideal S8x512x64 .f32) (a2 : FVec Ideal S8x512 .f32)

/-- The column of a vector in the kernel holds that vector. -/
theorem vec_eq (b : Fin 2) (h : Fin 8) (r : Fin 16) (c : Fin 128) (k : Fin 64) :
    Cert.KernelIdeal.Hand.cols (F := Ideal) (hd0 (vt a0) h) (ix2 k (at3 b r c)) = a0 (ix5 b h r c k) := by
  rw [cols_at]
  show vt a0 (ix5 b h r k c) = _
  exact transpose_apply _ _ _ _ (ix5 b h r c k) (by intro a; fin_cases a <;> rfl)

/-- The kernel's codeword is the reference's. -/
theorem word_eq (h : Fin 8) (s : Fin 512) (k : Fin 64) : bword (hd1 a1 h) (hd2 (cc a2) h) s k = codes a1 a2 (ix3 h s k) := by
  rw [Cert.ReferenceIdeal.Hand.codes_at]
  unfold bword word
  refine congrArg (Ideal.div _) ?_
  rw [max_comm]
  refine congrArg (max _) ?_
  show cc a2 (ix3 h s (0 : Fin 1)) = _
  refine shapeCast_apply _ _ _ (ix2 h s) ?_
  rw [Shape.rowMajor_val_two, Shape.rowMajor_val_three]
  show h.val * 512 + s.val = (h.val * 512 + s.val) * 1 + 0
  omega

variable (h0 : ∀ i, ∃ r : ℝ, a0 i = (r : EReal)) (h1 : ∀ i, ∃ r : ℝ, a1 i = (r : EReal)) (h2 : ∀ i, ∃ r : ℝ, a2 i = (r : EReal))

include h0 h1 h2

/-- The kernel's distances from a vector to the codewords are the reference's. -/
theorem gap_eq (b : Fin 2) (h : Fin 8) (r : Fin 16) (c : Fin 128) :
    bgap (hd0 (vt a0) h) (hd1 a1 h) (hd2 (cc a2) h) (at3 b r c) = row (dAll a0 a1 a2) b h r c := by
  funext s
  refine Eq.trans ?_ (Cert.ReferenceIdeal.Hand.diffs_at a0 (codes a1 a2) b h r c s).symm
  unfold bgap gap
  simp only [vec_eq, word_eq]
  refine Cert.Distance.dist_eq (fun k => a0 (ix5 b h r c k)) (fun k => codes a1 a2 (ix3 h s k)) (fun k => h0 _) fun k => ?_
  rw [Cert.ReferenceIdeal.Hand.codes_at]
  exact Cert.Distance.div_real _ _ (h1 _) (h2 _)

/-- The nearest codeword is the same. -/
theorem near_eq (b : Fin 2) (h : Fin 8) (r : Fin 16) (c : Fin 128) :
    bnear (hd0 (vt a0) h) (hd1 a1 h) (hd2 (cc a2) h) (at3 b r c) = first (row (dAll a0 a1 a2) b h r c) := by
  unfold bnear
  rw [gap_eq a0 a1 a2 h0 h1 h2]

/-- The clipped least distance is the same. -/
theorem err_eq (b : Fin 2) (h : Fin 8) (r : Fin 16) (c : Fin 128) :
    berr (hd0 (vt a0) h) (hd1 a1 h) (hd2 (cc a2) h) (at3 b r c) = errOf (dAll a0 a1 a2) (ix4 b h r c) := by
  rw [Cert.ReferenceIdeal.Hand.errOf_at]
  unfold berr
  rw [near_eq a0 a1 a2 h0 h1 h2, gap_eq a0 a1 a2 h0 h1 h2]

/-- The squared errors agree. -/
theorem errs_agree : arr5 (vt a0) a1 (cc a2) = errOf (dAll a0 a1 a2) := by
  funext i
  obtain ⟨b, h, r, c, rfl⟩ : ∃ b h r c, i = ix4 b h r c := ⟨i 0, i 1, i 2, i 3, eq_ix4 i⟩
  rw [← err_eq a0 a1 a2 h0 h1 h2]
  exact out5_at _ _ _ b r c

/-- The positions agree. -/
theorem z_agree : arr4 (vt a0) a1 (cc a2) = zOf (F := Ideal) (dAll a0 a1 a2) := by
  funext i
  obtain ⟨b, h, r, c, rfl⟩ : ∃ b h r c, i = ix4 b h r c := ⟨i 0, i 1, i 2, i 3, eq_ix4 i⟩
  rw [Cert.ReferenceIdeal.Hand.zOf_at, ← near_eq a0 a1 a2 h0 h1 h2]
  exact out4_at _ _ _ b r c

/-- The quantised vectors agree. -/
theorem hat_agree : kHat a0 a1 a2 = hatOf a0 (takenOf (codes a1 a2) (wrapped (F := Ideal) (zOf (F := Ideal) (dAll a0 a1 a2)))) := by
  funext i
  obtain ⟨b, h, r, c, k, rfl⟩ : ∃ b h r c k, i = ix5 b h r c k := ⟨i 0, i 1, i 2, i 3, i 4, eq_ix5 i⟩
  rw [Cert.ReferenceIdeal.Hand.hatOf_at a0 _ h0,
    Cert.ReferenceIdeal.Hand.takenOf_at (codes a1 a2) _ (fun b h r c => first (row (dAll a0 a1 a2) b h r c))
      (fun b h r c => Cert.ReferenceIdeal.Hand.wrapped_at _ b h r c _ (Cert.ReferenceIdeal.Hand.zOf_at _ b h r c))]
  rw [← near_eq a0 a1 a2 h0 h1 h2, ← word_eq]
  unfold kHat
  refine (transpose_apply _ _ _ _ (ix5 b h r k c) (by intro a; fin_cases a <;> rfl)).trans ?_
  exact out3_at _ _ _ b r k c

/-- The vectors of one head, by batch entry, row and column, are its 4096 columns. -/
def places : S2x16x128.Idx ≃ Fin 4096 where
  toFun i := at3 (i 0) (i 1) (i 2)
  invFun n := ix3 (⟨n.val / 128 / 16, by omega⟩ : Fin 2) (⟨n.val / 128 % 16, by omega⟩ : Fin 16) (⟨n.val % 128, by omega⟩ : Fin 128)
  left_inv i := by
    have g0 : (i 0).val < 2 := (i 0).isLt
    have g1 : (i 1).val < 16 := (i 1).isLt
    have g2 : (i 2).val < 128 := (i 2).isLt
    funext a
    refine Fin.ext ?_
    match a with
    | ⟨0, _⟩ => show (((i 0).val * 16 + (i 1).val) * 128 + (i 2).val) / 128 / 16 = (i 0).val; omega
    | ⟨1, _⟩ => show (((i 0).val * 16 + (i 1).val) * 128 + (i 2).val) / 128 % 16 = (i 1).val; omega
    | ⟨2, _⟩ => show (((i 0).val * 16 + (i 1).val) * 128 + (i 2).val) % 128 = (i 2).val; omega
  right_inv n := Fin.ext (by
    show (n.val / 128 / 16 * 16 + n.val / 128 % 16) * 128 + n.val % 128 = n.val
    omega)

/-- A head's total in the kernel is the sum of the reference's errors over that head. -/
theorem headSum_eq (h : Fin 8) : headSum (vt a0) a1 (cc a2) h = ∑ i : S2x16x128.Idx, errOf (dAll a0 a1 a2) (ix4 (i 0) h (i 1) (i 2)) := by
  unfold headSum
  refine (Fintype.sum_equiv places _ _ fun i => ?_).symm
  exact (err_eq a0 a1 a2 h0 h1 h2 (i 0) h (i 1) (i 2)).symm

/-- The commitment losses agree. -/
theorem commit_agree : kCommit a0 a1 a2 = commitOf (errOf (dAll a0 a1 a2)) := by
  funext j
  rw [Cert.ReferenceIdeal.Hand.commitOf_at, Finset.sum_comm]
  unfold kCommit Cert.KernelIdeal.Hand.meanOf
  rw [hostDivf_apply]
  refine congrArg₂ Ideal.div ?_ rfl
  refine (shapeCast_apply _ _ _ (ix2 (0 : Fin 1) (0 : Fin 1)) ?_).trans ?_
  · have e : (Shape.rowMajor S_ j).val < 1 := lt_of_lt_of_eq (Shape.rowMajor S_ j).isLt (by decide)
    rw [Shape.rowMajor_val_two]
    show 0 * 1 + 0 = (Shape.rowMajor S_ j).val
    omega
  · exact Finset.sum_congr rfl fun h _ => headSum_eq a0 a1 a2 h0 h1 h2 h

omit h0 in
/-- The codebook losses agree: both are zero. -/
theorem loss_agree (s : FVec Ideal S8x512x64 .f32) (n : FVec Ideal S8x512 .f32) :
    (constant S_ .f32 0x00000000#32 : FVec Ideal S_ .f32) = lossOf a1 s a2 n := by
  funext j
  rw [Cert.ReferenceIdeal.Hand.lossOf_at a1 s a2 n h1 h2]
  exact Ideal.ofBits_zero_f32

end Cert.Agree
-- ==== Proof.Finite.lean ====
/- Arguments without infinities are arrays of reals. -/
module

public import proofs.«01_k».proof.Defs
public import proofs.«01_k».proof.Proof.Gen.Pre_finite
public import proofs.«01_k».proof.Proof.RefAt

@[expose] public section

noncomputable section

namespace Cert.Finite

open Idealize.ShloMosaic Idealize.ShloMosaic.ValueIdx

/-- An extended real whose size is below infinity is real. -/
theorem real_of_bit (x : EReal)
    (h : FloatOps.cmpf (F := Ideal) (φ := .f32) .olt (FloatOps.absf (F := Ideal) (φ := .f32) x) (Ideal.ofBits .f32 0x7F800000#32) = 1#1) :
    ∃ r : ℝ, x = (r : EReal) := by
  rw [Cert.ReferenceIdeal.Hand.ofBits_inf] at h
  have hb : BitVec.ofBool (decide (max x (-x) < ⊤)) = 1#1 := h
  have hx : max x (-x) < ⊤ := by
    by_contra hn
    rw [decide_eq_false hn] at hb
    exact absurd hb (by decide)
  rw [max_lt_iff] at hx
  induction x using EReal.rec with
  | bot => exact absurd hx.2 (by simp)
  | coe r => exact ⟨r, rfl⟩
  | top => exact absurd hx.1 (by simp)

/-- The precondition of three arrays makes every entry of each real. -/
theorem reals (a0 : FVec Ideal Cert.Pre_finite.S2x8x16x128x64 .f32) (a1 : FVec Ideal Cert.Pre_finite.S8x512x64 .f32)
    (a2 : FVec Ideal Cert.Pre_finite.S8x512 .f32) [Cert.Pre_finite.Facts]
    (h : (Cert.Pre_finite.fn (F := Ideal) a0 a1 a2).1 = (fun _ => 1#1)
      ∧ (Cert.Pre_finite.fn (F := Ideal) a0 a1 a2).2.1 = (fun _ => 1#1)
      ∧ (Cert.Pre_finite.fn (F := Ideal) a0 a1 a2).2.2 = (fun _ => 1#1)) :
    (∀ i, ∃ r : ℝ, a0 i = (r : EReal)) ∧ (∀ i, ∃ r : ℝ, a1 i = (r : EReal)) ∧ (∀ i, ∃ r : ℝ, a2 i = (r : EReal)) :=
  ⟨fun i => real_of_bit _ (congrFun h.1 i), fun i => real_of_bit _ (congrFun h.2.1 i), fun i => real_of_bit _ (congrFun h.2.2 i)⟩

end Cert.Finite
-- ==== Proof.lean ====
/- The claims of this directory, each from the modules that prove it: the frames, the idealization, and the equality of the
   kernel's five results with the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Printed
public import proofs.«01_k».proof.Proof.Agree
public import proofs.«01_k».proof.Proof.Finite
public import Idealize.ShloMosaic.Adequacy
public import Idealize.ShloMosaic.Init

@[expose] public section

noncomputable section

namespace Cert.Proof

open Idealize.ShloMosaic Idealize.ShloMosaic.TcCoe Idealize.SL.Sem Idealize.ShloMosaic.StableHlo

/-- The reference ends with its arguments unchanged and every counter at zero. -/
theorem reference_kept (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c =>
    ⟨(h.1 c Cert.ReferenceIdeal.main_arg0).trans (Cert.ReferenceIdeal.Hand.ops_kept (by decide) (by decide) (by decide) (by decide) (by decide) _),
     (h.1 c Cert.ReferenceIdeal.main_arg1).trans (Cert.ReferenceIdeal.Hand.ops_kept (by decide) (by decide) (by decide) (by decide) (by decide) _),
     (h.1 c Cert.ReferenceIdeal.main_arg2).trans (Cert.ReferenceIdeal.Hand.ops_kept (by decide) (by decide) (by decide) (by decide) (by decide) _)⟩, h.2⟩)
    (Cert.ReferenceIdeal.Hand.ends m g)

/-- Every claim: the frames, the idealization, and, from real arguments, equal results of the kernel and the reference. -/
theorem claim : Cert.Claim := ⟨Cert.Kernel.Gen.facts, Cert.KernelIdeal.Gen.facts, Cert.ReferenceIdeal.Gen.facts, Cert.Pre_finite.Gen.facts, by
  refine ⟨fun m ρ _ => Cert.Printed.frame_kept m ρ, fun m ρ _ => Cert.KernelIdeal.Hand.frame_kept m ρ,
    fun m ρ _ => Cert.KernelIdeal.Hand.frame_kept m ρ, fun m ρ _ => reference_kept m ρ, fun m ρ _ => reference_kept m ρ, trivial, ?_⟩
  intro m g m' g' hpre hargs
  let a0 := fun c : Dev Cert.KernelIdeal.nD => m ((c.tc : Thread Cert.KernelIdeal.nD Cert.KernelIdeal.τ).loc Cert.KernelIdeal.main_arg0)
  let a1 := fun c : Dev Cert.KernelIdeal.nD => m ((c.tc : Thread Cert.KernelIdeal.nD Cert.KernelIdeal.τ).loc Cert.KernelIdeal.main_arg1)
  let a2 := fun c : Dev Cert.KernelIdeal.nD => m ((c.tc : Thread Cert.KernelIdeal.nD Cert.KernelIdeal.τ).loc Cert.KernelIdeal.main_arg2)
  refine ⟨fun c => Cert.KernelIdeal.Hand.kHat (a0 c) (a1 c) (a2 c),
    fun c => Cert.KernelIdeal.Hand.arr4 (Cert.KernelIdeal.Hand.vt (a0 c)) (a1 c) (Cert.KernelIdeal.Hand.cc (a2 c)),
    fun c => Cert.KernelIdeal.Hand.kCommit (a0 c) (a1 c) (a2 c),
    fun _ => (constant Cert.KernelIdeal.S_ .f32 0x00000000#32 : FVec Ideal Cert.KernelIdeal.S_ .f32),
    fun c => Cert.KernelIdeal.Hand.arr5 (Cert.KernelIdeal.Hand.vt (a0 c)) (a1 c) (Cert.KernelIdeal.Hand.cc (a2 c)),
    Cert.KernelIdeal.Hand.results m g, ?_⟩
  refine (θ_run _ _ _).mono (fun r h c => ?_) (θ_run_and (Cert.ReferenceIdeal.Hand.ends m' g') (reference_kept m' g'))
  obtain ⟨h, k⟩ := h
  obtain ⟨r0, r1, r2⟩ := Cert.Finite.reals (a0 c) (a1 c) (a2 c) (hpre c)
  obtain ⟨e0, e1, e2⟩ := hargs c
  have E0 : launchContents m' c (Proc.devRef .tc Cert.ReferenceIdeal.main_arg0) = a0 c := e0
  have E1 : launchContents m' c (Proc.devRef .tc Cert.ReferenceIdeal.main_arg1) = a1 c := e1
  have E2 : launchContents m' c (Proc.devRef .tc Cert.ReferenceIdeal.main_arg2) = a2 c := e2
  refine ⟨?_, ?_, ?_, ?_, ?_, k.1 c⟩
  · refine ((h.1 c Cert.ReferenceIdeal.main_v25).trans (Cert.ReferenceIdeal.Hand.ops_hat _)).trans ?_
    rw [E0, E1, E2]
    exact (Cert.Agree.hat_agree _ _ _ r0 r1 r2).symm
  · refine ((h.1 c Cert.ReferenceIdeal.main_v18).trans (Cert.ReferenceIdeal.Hand.ops_z _)).trans ?_
    rw [E0, E1, E2]
    exact (Cert.Agree.z_agree _ _ _ r0 r1 r2).symm
  · refine ((h.1 c Cert.ReferenceIdeal.main_v28).trans (Cert.ReferenceIdeal.Hand.ops_commit _)).trans ?_
    rw [E0, E1, E2]
    exact (Cert.Agree.commit_agree _ _ _ r0 r1 r2).symm
  · obtain ⟨s, n, hl⟩ := Cert.ReferenceIdeal.Hand.ops_loss (F := Ideal) (launchContents m' c)
    refine ((h.1 c Cert.ReferenceIdeal.main_v54).trans hl).trans ?_
    rw [E1, E2]
    exact (Cert.Agree.loss_agree _ _ r1 r2 s n).symm
  · refine ((h.1 c Cert.ReferenceIdeal.main_v20).trans (Cert.ReferenceIdeal.Hand.ops_err _)).trans ?_
    rw [E0, E1, E2]
    exact (Cert.Agree.errs_agree _ _ _ r0 r1 r2).symm⟩

end Cert.Proof

end
